-- ==== Defs.lean ====
def Pre_Stats (m : (ℓ : Loc Cert.Stats.nD Cert.Stats.τ Cert.Stats.sig) → Buf (Elt Bits) ℓ) : Prop :=
  True

def Pre_StatsIdeal (m : (ℓ : Loc Cert.StatsIdeal.nD Cert.StatsIdeal.τ Cert.StatsIdeal.sig) → Buf (Elt Ideal) ℓ) : Prop :=
  True

def Pre_StatsRefIdeal (m : (ℓ : Loc Cert.StatsRefIdeal.nD Cert.StatsRefIdeal.τ Cert.StatsRefIdeal.sig) → Buf (Elt Ideal) ℓ) : Prop :=
  True

def Pre_Grad (m : (ℓ : Loc Cert.Grad.nD Cert.Grad.τ Cert.Grad.sig) → Buf (Elt Bits) ℓ) : Prop :=
  True

def Pre_GradIdeal (m : (ℓ : Loc Cert.GradIdeal.nD Cert.GradIdeal.τ Cert.GradIdeal.sig) → Buf (Elt Ideal) ℓ) : Prop :=
  True

def Pre_GradIdeal_grad_defined [hPre_grad_defined : Cert.Pre_grad_defined.Facts] (m : (ℓ : Loc Cert.GradIdeal.nD Cert.GradIdeal.τ Cert.GradIdeal.sig) → Buf (Elt Ideal) ℓ) : Prop :=
  ∀ c : Dev Cert.GradIdeal.nD,
    (Cert.Pre_grad_defined.fn (F := Ideal) (m ((c.tc : Thread Cert.GradIdeal.nD Cert.GradIdeal.τ).loc Cert.GradIdeal.main_arg0)) (m ((c.tc : Thread Cert.GradIdeal.nD Cert.GradIdeal.τ).loc Cert.GradIdeal.main_arg1)) (m ((c.tc : Thread Cert.GradIdeal.nD Cert.GradIdeal.τ).loc Cert.GradIdeal.main_arg2)) (m ((c.tc : Thread Cert.GradIdeal.nD Cert.GradIdeal.τ).loc Cert.GradIdeal.main_arg3)) (m ((c.tc : Thread Cert.GradIdeal.nD Cert.GradIdeal.τ).loc Cert.GradIdeal.main_arg4)) (m ((c.tc : Thread Cert.GradIdeal.nD Cert.GradIdeal.τ).loc Cert.GradIdeal.main_arg5)) (m ((c.tc : Thread Cert.GradIdeal.nD Cert.GradIdeal.τ).loc Cert.GradIdeal.main_arg6)) (m ((c.tc : Thread Cert.GradIdeal.nD Cert.GradIdeal.τ).loc Cert.GradIdeal.main_arg7))) = (fun _ => 1#1)

def Pre_GradRefIdeal (m : (ℓ : Loc Cert.GradRefIdeal.nD Cert.GradRefIdeal.τ Cert.GradRefIdeal.sig) → Buf (Elt Ideal) ℓ) : Prop :=
  True

def Pre_GradRefIdeal_grad_defined [hPre_grad_defined : Cert.Pre_grad_defined.Facts] (m : (ℓ : Loc Cert.GradRefIdeal.nD Cert.GradRefIdeal.τ Cert.GradRefIdeal.sig) → Buf (Elt Ideal) ℓ) : Prop :=
  ∀ c : Dev Cert.GradRefIdeal.nD,
    (Cert.Pre_grad_defined.fn (F := Ideal) (m ((c.tc : Thread Cert.GradRefIdeal.nD Cert.GradRefIdeal.τ).loc Cert.GradRefIdeal.main_arg0)) (m ((c.tc : Thread Cert.GradRefIdeal.nD Cert.GradRefIdeal.τ).loc Cert.GradRefIdeal.main_arg1)) (m ((c.tc : Thread Cert.GradRefIdeal.nD Cert.GradRefIdeal.τ).loc Cert.GradRefIdeal.main_arg2)) (m ((c.tc : Thread Cert.GradRefIdeal.nD Cert.GradRefIdeal.τ).loc Cert.GradRefIdeal.main_arg3)) (m ((c.tc : Thread Cert.GradRefIdeal.nD Cert.GradRefIdeal.τ).loc Cert.GradRefIdeal.main_arg4)) (m ((c.tc : Thread Cert.GradRefIdeal.nD Cert.GradRefIdeal.τ).loc Cert.GradRefIdeal.main_arg5)) (m ((c.tc : Thread Cert.GradRefIdeal.nD Cert.GradRefIdeal.τ).loc Cert.GradRefIdeal.main_arg6)) (m ((c.tc : Thread Cert.GradRefIdeal.nD Cert.GradRefIdeal.τ).loc Cert.GradRefIdeal.main_arg7))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Stats [hStats : Cert.Stats.Facts] : Prop :=
  ∀ (m : (ℓ : Loc Cert.Stats.nD Cert.Stats.τ Cert.Stats.sig) → Buf (Elt Bits) ℓ) (g : Dev Cert.Stats.nD → PrngReg), Pre_Stats m →
    θ_run (Cert.Stats.defs (F := Bits)) (onTc (τ := Cert.Stats.τ) (Cert.Stats.main (F := Bits))) ⟨m, fun _ => 0, g⟩ (fun r => (∀ c : Dev Cert.Stats.nD,
      r.2.mem ((c.tc : Thread Cert.Stats.nD Cert.Stats.τ).loc Cert.Stats.main_arg0) = m ((c.tc : Thread Cert.Stats.nD Cert.Stats.τ).loc Cert.Stats.main_arg0)
      ∧ r.2.mem ((c.tc : Thread Cert.Stats.nD Cert.Stats.τ).loc Cert.Stats.main_arg1) = m ((c.tc : Thread Cert.Stats.nD Cert.Stats.τ).loc Cert.Stats.main_arg1)
      ∧ r.2.mem ((c.tc : Thread Cert.Stats.nD Cert.Stats.τ).loc Cert.Stats.main_arg2) = m ((c.tc : Thread Cert.Stats.nD Cert.Stats.τ).loc Cert.Stats.main_arg2)
      ∧ r.2.mem ((c.tc : Thread Cert.Stats.nD Cert.Stats.τ).loc Cert.Stats.main_arg3) = m ((c.tc : Thread Cert.Stats.nD Cert.Stats.τ).loc Cert.Stats.main_arg3)
      ∧ r.2.mem ((c.tc : Thread Cert.Stats.nD Cert.Stats.τ).loc Cert.Stats.main_arg4) = m ((c.tc : Thread Cert.Stats.nD Cert.Stats.τ).loc Cert.Stats.main_arg4)
      ∧ r.2.mem ((c.tc : Thread Cert.Stats.nD Cert.Stats.τ).loc Cert.Stats.main_arg5) = m ((c.tc : Thread Cert.Stats.nD Cert.Stats.τ).loc Cert.Stats.main_arg5)
      ∧ r.2.mem ((c.tc : Thread Cert.Stats.nD Cert.Stats.τ).loc Cert.Stats.main_arg6) = m ((c.tc : Thread Cert.Stats.nD Cert.Stats.τ).loc Cert.Stats.main_arg6)
      ∧ r.2.mem ((c.tc : Thread Cert.Stats.nD Cert.Stats.τ).loc Cert.Stats.main_arg7) = m ((c.tc : Thread Cert.Stats.nD Cert.Stats.τ).loc Cert.Stats.main_arg7)
      ∧ r.2.mem ((c.tc : Thread Cert.Stats.nD Cert.Stats.τ).loc Cert.Stats.main_arg8) = m ((c.tc : Thread Cert.Stats.nD Cert.Stats.τ).loc Cert.Stats.main_arg8))
      ∧ r.2.sem = fun _ => 0)

def quiescent_StatsIdeal [hStatsIdeal : Cert.StatsIdeal.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
      ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
      ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2)
      ∧ r.2.mem ((c.tc : Thread Cert.StatsIdeal.nD Cert.StatsIdeal.τ).loc Cert.StatsIdeal.main_arg3) = m ((c.tc : Thread Cert.StatsIdeal.nD Cert.StatsIdeal.τ).loc Cert.StatsIdeal.main_arg3)
      ∧ r.2.mem ((c.tc : Thread Cert.StatsIdeal.nD Cert.StatsIdeal.τ).loc Cert.StatsIdeal.main_arg4) = m ((c.tc : Thread Cert.StatsIdeal.nD Cert.StatsIdeal.τ).loc Cert.StatsIdeal.main_arg4)
      ∧ r.2.mem ((c.tc : Thread Cert.StatsIdeal.nD Cert.StatsIdeal.τ).loc Cert.StatsIdeal.main_arg5) = m ((c.tc : Thread Cert.StatsIdeal.nD Cert.StatsIdeal.τ).loc Cert.StatsIdeal.main_arg5)
      ∧ r.2.mem ((c.tc : Thread Cert.StatsIdeal.nD Cert.StatsIdeal.τ).loc Cert.StatsIdeal.main_arg6) = m ((c.tc : Thread Cert.StatsIdeal.nD Cert.StatsIdeal.τ).loc Cert.StatsIdeal.main_arg6)
      ∧ r.2.mem ((c.tc : Thread Cert.StatsIdeal.nD Cert.StatsIdeal.τ).loc Cert.StatsIdeal.main_arg7) = m ((c.tc : Thread Cert.StatsIdeal.nD Cert.StatsIdeal.τ).loc Cert.StatsIdeal.main_arg7)
      ∧ r.2.mem ((c.tc : Thread Cert.StatsIdeal.nD Cert.StatsIdeal.τ).loc Cert.StatsIdeal.main_arg8) = m ((c.tc : Thread Cert.StatsIdeal.nD Cert.StatsIdeal.τ).loc Cert.StatsIdeal.main_arg8))
      ∧ r.2.sem = fun _ => 0)

def quiescent_StatsRefIdeal [hStatsRefIdeal : Cert.StatsRefIdeal.Facts] : Prop :=
  ∀ (m : (ℓ : Loc Cert.StatsRefIdeal.nD Cert.StatsRefIdeal.τ Cert.StatsRefIdeal.sig) → Buf (Elt Ideal) ℓ) (g : Dev Cert.StatsRefIdeal.nD → PrngReg), Pre_StatsRefIdeal m →
    θ_run (Cert.StatsRefIdeal.defs (F := Ideal)) (onTc (τ := Cert.StatsRefIdeal.τ) (Cert.StatsRefIdeal.main (F := Ideal))) ⟨m, fun _ => 0, g⟩ (fun r => (∀ c : Dev Cert.StatsRefIdeal.nD,
      r.2.mem ((c.tc : Thread Cert.StatsRefIdeal.nD Cert.StatsRefIdeal.τ).loc Cert.StatsRefIdeal.main_arg0) = m ((c.tc : Thread Cert.StatsRefIdeal.nD Cert.StatsRefIdeal.τ).loc Cert.StatsRefIdeal.main_arg0)
      ∧ r.2.mem ((c.tc : Thread Cert.StatsRefIdeal.nD Cert.StatsRefIdeal.τ).loc Cert.StatsRefIdeal.main_arg1) = m ((c.tc : Thread Cert.StatsRefIdeal.nD Cert.StatsRefIdeal.τ).loc Cert.StatsRefIdeal.main_arg1)
      ∧ r.2.mem ((c.tc : Thread Cert.StatsRefIdeal.nD Cert.StatsRefIdeal.τ).loc Cert.StatsRefIdeal.main_arg2) = m ((c.tc : Thread Cert.StatsRefIdeal.nD Cert.StatsRefIdeal.τ).loc Cert.StatsRefIdeal.main_arg2)
      ∧ r.2.mem ((c.tc : Thread Cert.StatsRefIdeal.nD Cert.StatsRefIdeal.τ).loc Cert.StatsRefIdeal.main_arg3) = m ((c.tc : Thread Cert.StatsRefIdeal.nD Cert.StatsRefIdeal.τ).loc Cert.StatsRefIdeal.main_arg3)
      ∧ r.2.mem ((c.tc : Thread Cert.StatsRefIdeal.nD Cert.StatsRefIdeal.τ).loc Cert.StatsRefIdeal.main_arg4) = m ((c.tc : Thread Cert.StatsRefIdeal.nD Cert.StatsRefIdeal.τ).loc Cert.StatsRefIdeal.main_arg4)
      ∧ r.2.mem ((c.tc : Thread Cert.StatsRefIdeal.nD Cert.StatsRefIdeal.τ).loc Cert.StatsRefIdeal.main_arg5) = m ((c.tc : Thread Cert.StatsRefIdeal.nD Cert.StatsRefIdeal.τ).loc Cert.StatsRefIdeal.main_arg5)
      ∧ r.2.mem ((c.tc : Thread Cert.StatsRefIdeal.nD Cert.StatsRefIdeal.τ).loc Cert.StatsRefIdeal.main_arg6) = m ((c.tc : Thread Cert.StatsRefIdeal.nD Cert.StatsRefIdeal.τ).loc Cert.StatsRefIdeal.main_arg6)
      ∧ r.2.mem ((c.tc : Thread Cert.StatsRefIdeal.nD Cert.StatsRefIdeal.τ).loc Cert.StatsRefIdeal.main_arg7) = m ((c.tc : Thread Cert.StatsRefIdeal.nD Cert.StatsRefIdeal.τ).loc Cert.StatsRefIdeal.main_arg7)
      ∧ r.2.mem ((c.tc : Thread Cert.StatsRefIdeal.nD Cert.StatsRefIdeal.τ).loc Cert.StatsRefIdeal.main_arg8) = m ((c.tc : Thread Cert.StatsRefIdeal.nD Cert.StatsRefIdeal.τ).loc Cert.StatsRefIdeal.main_arg8))
      ∧ r.2.sem = fun _ => 0)

def quiescent_Grad [hGrad : Cert.Grad.Facts] : Prop :=
  ∀ (m : (ℓ : Loc Cert.Grad.nD Cert.Grad.τ Cert.Grad.sig) → Buf (Elt Bits) ℓ) (g : Dev Cert.Grad.nD → PrngReg), Pre_Grad m →
    θ_run (Cert.Grad.defs (F := Bits)) (onTc (τ := Cert.Grad.τ) (Cert.Grad.main (F := Bits))) ⟨m, fun _ => 0, g⟩ (fun r => (∀ c : Dev Cert.Grad.nD,
      r.2.mem ((c.tc : Thread Cert.Grad.nD Cert.Grad.τ).loc Cert.Grad.main_arg0) = m ((c.tc : Thread Cert.Grad.nD Cert.Grad.τ).loc Cert.Grad.main_arg0)
      ∧ r.2.mem ((c.tc : Thread Cert.Grad.nD Cert.Grad.τ).loc Cert.Grad.main_arg1) = m ((c.tc : Thread Cert.Grad.nD Cert.Grad.τ).loc Cert.Grad.main_arg1)
      ∧ r.2.mem ((c.tc : Thread Cert.Grad.nD Cert.Grad.τ).loc Cert.Grad.main_arg2) = m ((c.tc : Thread Cert.Grad.nD Cert.Grad.τ).loc Cert.Grad.main_arg2)
      ∧ r.2.mem ((c.tc : Thread Cert.Grad.nD Cert.Grad.τ).loc Cert.Grad.main_arg3) = m ((c.tc : Thread Cert.Grad.nD Cert.Grad.τ).loc Cert.Grad.main_arg3)
      ∧ r.2.mem ((c.tc : Thread Cert.Grad.nD Cert.Grad.τ).loc Cert.Grad.main_arg4) = m ((c.tc : Thread Cert.Grad.nD Cert.Grad.τ).loc Cert.Grad.main_arg4)
      ∧ r.2.mem ((c.tc : Thread Cert.Grad.nD Cert.Grad.τ).loc Cert.Grad.main_arg5) = m ((c.tc : Thread Cert.Grad.nD Cert.Grad.τ).loc Cert.Grad.main_arg5)
      ∧ r.2.mem ((c.tc : Thread Cert.Grad.nD Cert.Grad.τ).loc Cert.Grad.main_arg6) = m ((c.tc : Thread Cert.Grad.nD Cert.Grad.τ).loc Cert.Grad.main_arg6)
      ∧ r.2.mem ((c.tc : Thread Cert.Grad.nD Cert.Grad.τ).loc Cert.Grad.main_arg7) = m ((c.tc : Thread Cert.Grad.nD Cert.Grad.τ).loc Cert.Grad.main_arg7))
      ∧ r.2.sem = fun _ => 0)

def quiescent_GradIdeal [hGradIdeal : Cert.GradIdeal.Facts] : Prop :=
  ∀ (m : (ℓ : Loc Cert.GradIdeal.nD Cert.GradIdeal.τ Cert.GradIdeal.sig) → Buf (Elt Ideal) ℓ) (g : Dev Cert.GradIdeal.nD → PrngReg), Pre_GradIdeal m →
    θ_run (Cert.GradIdeal.defs (F := Ideal)) (onTc (τ := Cert.GradIdeal.τ) (Cert.GradIdeal.main (F := Ideal))) ⟨m, fun _ => 0, g⟩ (fun r => (∀ c : Dev Cert.GradIdeal.nD,
      r.2.mem ((c.tc : Thread Cert.GradIdeal.nD Cert.GradIdeal.τ).loc Cert.GradIdeal.main_arg0) = m ((c.tc : Thread Cert.GradIdeal.nD Cert.GradIdeal.τ).loc Cert.GradIdeal.main_arg0)
      ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
      ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
      ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
      ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
      ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
      ∧ r.2.mem ((c.tc : Thread Cert.GradIdeal.nD Cert.GradIdeal.τ).loc Cert.GradIdeal.main_arg6) = m ((c.tc : Thread Cert.GradIdeal.nD Cert.GradIdeal.τ).loc Cert.GradIdeal.main_arg6)
      ∧ r.2.mem ((c.tc : Thread Cert.GradIdeal.nD Cert.GradIdeal.τ).loc Cert.GradIdeal.main_arg7) = m ((c.tc : Thread Cert.GradIdeal.nD Cert.GradIdeal.τ).loc Cert.GradIdeal.main_arg7))
      ∧ r.2.sem = fun _ => 0)

def quiescent_GradIdeal_pre_grad_defined [hGradIdeal : Cert.GradIdeal.Facts] [hPre_grad_defined : Cert.Pre_grad_defined.Facts] : Prop :=
  ∀ (m : (ℓ : Loc Cert.GradIdeal.nD Cert.GradIdeal.τ Cert.GradIdeal.sig) → Buf (Elt Ideal) ℓ) (g : Dev Cert.GradIdeal.nD → PrngReg), Pre_GradIdeal_grad_defined m →
    θ_run (Cert.GradIdeal.defs (F := Ideal)) (onTc (τ := Cert.GradIdeal.τ) (Cert.GradIdeal.main (F := Ideal))) ⟨m, fun _ => 0, g⟩ (fun r => (∀ c : Dev Cert.GradIdeal.nD,
      r.2.mem ((c.tc : Thread Cert.GradIdeal.nD Cert.GradIdeal.τ).loc Cert.GradIdeal.main_arg0) = m ((c.tc : Thread Cert.GradIdeal.nD Cert.GradIdeal.τ).loc Cert.GradIdeal.main_arg0)
      ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
      ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
      ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
      ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
      ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
      ∧ r.2.mem ((c.tc : Thread Cert.GradIdeal.nD Cert.GradIdeal.τ).loc Cert.GradIdeal.main_arg6) = m ((c.tc : Thread Cert.GradIdeal.nD Cert.GradIdeal.τ).loc Cert.GradIdeal.main_arg6)
      ∧ r.2.mem ((c.tc : Thread Cert.GradIdeal.nD Cert.GradIdeal.τ).loc Cert.GradIdeal.main_arg7) = m ((c.tc : Thread Cert.GradIdeal.nD Cert.GradIdeal.τ).loc Cert.GradIdeal.main_arg7))
      ∧ r.2.sem = fun _ => 0)

def quiescent_GradRefIdeal [hGradRefIdeal : Cert.GradRefIdeal.Facts] : Prop :=
  ∀ (m : (ℓ : Loc Cert.GradRefIdeal.nD Cert.GradRefIdeal.τ Cert.GradRefIdeal.sig) → Buf (Elt Ideal) ℓ) (g : Dev Cert.GradRefIdeal.nD → PrngReg), Pre_GradRefIdeal m →
    θ_run (Cert.GradRefIdeal.defs (F := Ideal)) (onTc (τ := Cert.GradRefIdeal.τ) (Cert.GradRefIdeal.main (F := Ideal))) ⟨m, fun _ => 0, g⟩ (fun r => (∀ c : Dev Cert.GradRefIdeal.nD,
      r.2.mem ((c.tc : Thread Cert.GradRefIdeal.nD Cert.GradRefIdeal.τ).loc Cert.GradRefIdeal.main_arg0) = m ((c.tc : Thread Cert.GradRefIdeal.nD Cert.GradRefIdeal.τ).loc Cert.GradRefIdeal.main_arg0)
      ∧ r.2.mem ((c.tc : Thread Cert.GradRefIdeal.nD Cert.GradRefIdeal.τ).loc Cert.GradRefIdeal.main_arg1) = m ((c.tc : Thread Cert.GradRefIdeal.nD Cert.GradRefIdeal.τ).loc Cert.GradRefIdeal.main_arg1)
      ∧ r.2.mem ((c.tc : Thread Cert.GradRefIdeal.nD Cert.GradRefIdeal.τ).loc Cert.GradRefIdeal.main_arg2) = m ((c.tc : Thread Cert.GradRefIdeal.nD Cert.GradRefIdeal.τ).loc Cert.GradRefIdeal.main_arg2)
      ∧ r.2.mem ((c.tc : Thread Cert.GradRefIdeal.nD Cert.GradRefIdeal.τ).loc Cert.GradRefIdeal.main_arg3) = m ((c.tc : Thread Cert.GradRefIdeal.nD Cert.GradRefIdeal.τ).loc Cert.GradRefIdeal.main_arg3)
      ∧ r.2.mem ((c.tc : Thread Cert.GradRefIdeal.nD Cert.GradRefIdeal.τ).loc Cert.GradRefIdeal.main_arg4) = m ((c.tc : Thread Cert.GradRefIdeal.nD Cert.GradRefIdeal.τ).loc Cert.GradRefIdeal.main_arg4)
      ∧ r.2.mem ((c.tc : Thread Cert.GradRefIdeal.nD Cert.GradRefIdeal.τ).loc Cert.GradRefIdeal.main_arg5) = m ((c.tc : Thread Cert.GradRefIdeal.nD Cert.GradRefIdeal.τ).loc Cert.GradRefIdeal.main_arg5)
      ∧ r.2.mem ((c.tc : Thread Cert.GradRefIdeal.nD Cert.GradRefIdeal.τ).loc Cert.GradRefIdeal.main_arg6) = m ((c.tc : Thread Cert.GradRefIdeal.nD Cert.GradRefIdeal.τ).loc Cert.GradRefIdeal.main_arg6)
      ∧ r.2.mem ((c.tc : Thread Cert.GradRefIdeal.nD Cert.GradRefIdeal.τ).loc Cert.GradRefIdeal.main_arg7) = m ((c.tc : Thread Cert.GradRefIdeal.nD Cert.GradRefIdeal.τ).loc Cert.GradRefIdeal.main_arg7))
      ∧ r.2.sem = fun _ => 0)

def quiescent_GradRefIdeal_pre_grad_defined [hGradRefIdeal : Cert.GradRefIdeal.Facts] [hPre_grad_defined : Cert.Pre_grad_defined.Facts] : Prop :=
  ∀ (m : (ℓ : Loc Cert.GradRefIdeal.nD Cert.GradRefIdeal.τ Cert.GradRefIdeal.sig) → Buf (Elt Ideal) ℓ) (g : Dev Cert.GradRefIdeal.nD → PrngReg), Pre_GradRefIdeal_grad_defined m →
    θ_run (Cert.GradRefIdeal.defs (F := Ideal)) (onTc (τ := Cert.GradRefIdeal.τ) (Cert.GradRefIdeal.main (F := Ideal))) ⟨m, fun _ => 0, g⟩ (fun r => (∀ c : Dev Cert.GradRefIdeal.nD,
      r.2.mem ((c.tc : Thread Cert.GradRefIdeal.nD Cert.GradRefIdeal.τ).loc Cert.GradRefIdeal.main_arg0) = m ((c.tc : Thread Cert.GradRefIdeal.nD Cert.GradRefIdeal.τ).loc Cert.GradRefIdeal.main_arg0)
      ∧ r.2.mem ((c.tc : Thread Cert.GradRefIdeal.nD Cert.GradRefIdeal.τ).loc Cert.GradRefIdeal.main_arg1) = m ((c.tc : Thread Cert.GradRefIdeal.nD Cert.GradRefIdeal.τ).loc Cert.GradRefIdeal.main_arg1)
      ∧ r.2.mem ((c.tc : Thread Cert.GradRefIdeal.nD Cert.GradRefIdeal.τ).loc Cert.GradRefIdeal.main_arg2) = m ((c.tc : Thread Cert.GradRefIdeal.nD Cert.GradRefIdeal.τ).loc Cert.GradRefIdeal.main_arg2)
      ∧ r.2.mem ((c.tc : Thread Cert.GradRefIdeal.nD Cert.GradRefIdeal.τ).loc Cert.GradRefIdeal.main_arg3) = m ((c.tc : Thread Cert.GradRefIdeal.nD Cert.GradRefIdeal.τ).loc Cert.GradRefIdeal.main_arg3)
      ∧ r.2.mem ((c.tc : Thread Cert.GradRefIdeal.nD Cert.GradRefIdeal.τ).loc Cert.GradRefIdeal.main_arg4) = m ((c.tc : Thread Cert.GradRefIdeal.nD Cert.GradRefIdeal.τ).loc Cert.GradRefIdeal.main_arg4)
      ∧ r.2.mem ((c.tc : Thread Cert.GradRefIdeal.nD Cert.GradRefIdeal.τ).loc Cert.GradRefIdeal.main_arg5) = m ((c.tc : Thread Cert.GradRefIdeal.nD Cert.GradRefIdeal.τ).loc Cert.GradRefIdeal.main_arg5)
      ∧ r.2.mem ((c.tc : Thread Cert.GradRefIdeal.nD Cert.GradRefIdeal.τ).loc Cert.GradRefIdeal.main_arg6) = m ((c.tc : Thread Cert.GradRefIdeal.nD Cert.GradRefIdeal.τ).loc Cert.GradRefIdeal.main_arg6)
      ∧ r.2.mem ((c.tc : Thread Cert.GradRefIdeal.nD Cert.GradRefIdeal.τ).loc Cert.GradRefIdeal.main_arg7) = m ((c.tc : Thread Cert.GradRefIdeal.nD Cert.GradRefIdeal.τ).loc Cert.GradRefIdeal.main_arg7))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def preserves_Stats_StatsIdeal : Prop :=
  True

def algebraic_StatsIdeal_StatsRefIdeal [hStatsIdeal : Cert.StatsIdeal.Facts] [hStatsRefIdeal : Cert.StatsRefIdeal.Facts] : Prop :=
  ∀ (m : (ℓ : Loc Cert.StatsIdeal.nD Cert.StatsIdeal.τ Cert.StatsIdeal.sig) → Buf (Elt Ideal) ℓ) (g : Dev Cert.StatsIdeal.nD → PrngReg)
    (m' : (ℓ : Loc Cert.StatsRefIdeal.nD Cert.StatsRefIdeal.τ Cert.StatsRefIdeal.sig) → Buf (Elt Ideal) ℓ) (g' : Dev Cert.StatsRefIdeal.nD → PrngReg), Pre_StatsIdeal m →
    (∀ c : Dev Cert.StatsIdeal.nD,
      m' ((c.tc : Thread Cert.StatsRefIdeal.nD Cert.StatsRefIdeal.τ).loc Cert.StatsRefIdeal.main_arg0) = m ((c.tc : Thread Cert.StatsIdeal.nD Cert.StatsIdeal.τ).loc Cert.StatsIdeal.main_arg0)
      ∧ m' ((c.tc : Thread Cert.StatsRefIdeal.nD Cert.StatsRefIdeal.τ).loc Cert.StatsRefIdeal.main_arg1) = m ((c.tc : Thread Cert.StatsIdeal.nD Cert.StatsIdeal.τ).loc Cert.StatsIdeal.main_arg1)
      ∧ m' ((c.tc : Thread Cert.StatsRefIdeal.nD Cert.StatsRefIdeal.τ).loc Cert.StatsRefIdeal.main_arg2) = m ((c.tc : Thread Cert.StatsIdeal.nD Cert.StatsIdeal.τ).loc Cert.StatsIdeal.main_arg2)
      ∧ m' ((c.tc : Thread Cert.StatsRefIdeal.nD Cert.StatsRefIdeal.τ).loc Cert.StatsRefIdeal.main_arg3) = m ((c.tc : Thread Cert.StatsIdeal.nD Cert.StatsIdeal.τ).loc Cert.StatsIdeal.main_arg3)
      ∧ m' ((c.tc : Thread Cert.StatsRefIdeal.nD Cert.StatsRefIdeal.τ).loc Cert.StatsRefIdeal.main_arg4) = m ((c.tc : Thread Cert.StatsIdeal.nD Cert.StatsIdeal.τ).loc Cert.StatsIdeal.main_arg4)
      ∧ m' ((c.tc : Thread Cert.StatsRefIdeal.nD Cert.StatsRefIdeal.τ).loc Cert.StatsRefIdeal.main_arg5) = m ((c.tc : Thread Cert.StatsIdeal.nD Cert.StatsIdeal.τ).loc Cert.StatsIdeal.main_arg5)
      ∧ m' ((c.tc : Thread Cert.StatsRefIdeal.nD Cert.StatsRefIdeal.τ).loc Cert.StatsRefIdeal.main_arg6) = m ((c.tc : Thread Cert.StatsIdeal.nD Cert.StatsIdeal.τ).loc Cert.StatsIdeal.main_arg6)
      ∧ m' ((c.tc : Thread Cert.StatsRefIdeal.nD Cert.StatsRefIdeal.τ).loc Cert.StatsRefIdeal.main_arg7) = m ((c.tc : Thread Cert.StatsIdeal.nD Cert.StatsIdeal.τ).loc Cert.StatsIdeal.main_arg7)
      ∧ m' ((c.tc : Thread Cert.StatsRefIdeal.nD Cert.StatsRefIdeal.τ).loc Cert.StatsRefIdeal.main_arg8) = m ((c.tc : Thread Cert.StatsIdeal.nD Cert.StatsIdeal.τ).loc Cert.StatsIdeal.main_arg8)) →
    ∃ (v0 : (c : Dev Cert.StatsIdeal.nD) → Buf (Elt Ideal) ((c.tc : Thread Cert.StatsIdeal.nD Cert.StatsIdeal.τ).loc Cert.StatsIdeal.main_v8_0)) (v1 : (c : Dev Cert.StatsIdeal.nD) → Buf (Elt Ideal) ((c.tc : Thread Cert.StatsIdeal.nD Cert.StatsIdeal.τ).loc Cert.StatsIdeal.main_v8_1)) (v2 : (c : Dev Cert.StatsIdeal.nD) → Buf (Elt Ideal) ((c.tc : Thread Cert.StatsIdeal.nD Cert.StatsIdeal.τ).loc Cert.StatsIdeal.main_v8_2)) (v3 : (c : Dev Cert.StatsIdeal.nD) → Buf (Elt Ideal) ((c.tc : Thread Cert.StatsIdeal.nD Cert.StatsIdeal.τ).loc Cert.StatsIdeal.main_v8_3)) (v4 : (c : Dev Cert.StatsIdeal.nD) → Buf (Elt Ideal) ((c.tc : Thread Cert.StatsIdeal.nD Cert.StatsIdeal.τ).loc Cert.StatsIdeal.main_v8_4)) (v5 : (c : Dev Cert.StatsIdeal.nD) → Buf (Elt Ideal) ((c.tc : Thread Cert.StatsIdeal.nD Cert.StatsIdeal.τ).loc Cert.StatsIdeal.main_v8_5)) (v6 : (c : Dev Cert.StatsIdeal.nD) → Buf (Elt Ideal) ((c.tc : Thread Cert.StatsIdeal.nD Cert.StatsIdeal.τ).loc Cert.StatsIdeal.main_v8_6)) (v7 : (c : Dev Cert.StatsIdeal.nD) → Buf (Elt Ideal) ((c.tc : Thread Cert.StatsIdeal.nD Cert.StatsIdeal.τ).loc Cert.StatsIdeal.main_v8_7)),
      θ_run (Cert.StatsIdeal.defs (F := Ideal)) (onTc (τ := Cert.StatsIdeal.τ) (Cert.StatsIdeal.main (F := Ideal))) ⟨m, fun _ => 0, g⟩ (fun r => ∀ c : Dev Cert.StatsIdeal.nD,
          r.2.mem ((c.tc : Thread Cert.StatsIdeal.nD Cert.StatsIdeal.τ).loc Cert.StatsIdeal.main_v8_0) = v0 c
          ∧ r.2.mem ((c.tc : Thread Cert.StatsIdeal.nD Cert.StatsIdeal.τ).loc Cert.StatsIdeal.main_v8_1) = v1 c
          ∧ r.2.mem ((c.tc : Thread Cert.StatsIdeal.nD Cert.StatsIdeal.τ).loc Cert.StatsIdeal.main_v8_2) = v2 c
          ∧ r.2.mem ((c.tc : Thread Cert.StatsIdeal.nD Cert.StatsIdeal.τ).loc Cert.StatsIdeal.main_v8_3) = v3 c
          ∧ r.2.mem ((c.tc : Thread Cert.StatsIdeal.nD Cert.StatsIdeal.τ).loc Cert.StatsIdeal.main_v8_4) = v4 c
          ∧ r.2.mem ((c.tc : Thread Cert.StatsIdeal.nD Cert.StatsIdeal.τ).loc Cert.StatsIdeal.main_v8_5) = v5 c
          ∧ r.2.mem ((c.tc : Thread Cert.StatsIdeal.nD Cert.StatsIdeal.τ).loc Cert.StatsIdeal.main_v8_6) = v6 c
          ∧ r.2.mem ((c.tc : Thread Cert.StatsIdeal.nD Cert.StatsIdeal.τ).loc Cert.StatsIdeal.main_v8_7) = v7 c
          ∧ r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
          ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
          ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2)
          ∧ r.2.mem ((c.tc : Thread Cert.StatsIdeal.nD Cert.StatsIdeal.τ).loc Cert.StatsIdeal.main_arg3) = m ((c.tc : Thread Cert.StatsIdeal.nD Cert.StatsIdeal.τ).loc Cert.StatsIdeal.main_arg3)
          ∧ r.2.mem ((c.tc : Thread Cert.StatsIdeal.nD Cert.StatsIdeal.τ).loc Cert.StatsIdeal.main_arg4) = m ((c.tc : Thread Cert.StatsIdeal.nD Cert.StatsIdeal.τ).loc Cert.StatsIdeal.main_arg4)
          ∧ r.2.mem ((c.tc : Thread Cert.StatsIdeal.nD Cert.StatsIdeal.τ).loc Cert.StatsIdeal.main_arg5) = m ((c.tc : Thread Cert.StatsIdeal.nD Cert.StatsIdeal.τ).loc Cert.StatsIdeal.main_arg5)
          ∧ r.2.mem ((c.tc : Thread Cert.StatsIdeal.nD Cert.StatsIdeal.τ).loc Cert.StatsIdeal.main_arg6) = m ((c.tc : Thread Cert.StatsIdeal.nD Cert.StatsIdeal.τ).loc Cert.StatsIdeal.main_arg6)
          ∧ r.2.mem ((c.tc : Thread Cert.StatsIdeal.nD Cert.StatsIdeal.τ).loc Cert.StatsIdeal.main_arg7) = m ((c.tc : Thread Cert.StatsIdeal.nD Cert.StatsIdeal.τ).loc Cert.StatsIdeal.main_arg7)
          ∧ r.2.mem ((c.tc : Thread Cert.StatsIdeal.nD Cert.StatsIdeal.τ).loc Cert.StatsIdeal.main_arg8) = m ((c.tc : Thread Cert.StatsIdeal.nD Cert.StatsIdeal.τ).loc Cert.StatsIdeal.main_arg8))
      ∧ θ_run (Cert.StatsRefIdeal.defs (F := Ideal)) (onTc (τ := Cert.StatsRefIdeal.τ) (Cert.StatsRefIdeal.main (F := Ideal))) ⟨m', fun _ => 0, g'⟩ (fun r => ∀ c : Dev Cert.StatsRefIdeal.nD,
          r.2.mem ((c.tc : Thread Cert.StatsRefIdeal.nD Cert.StatsRefIdeal.τ).loc Cert.StatsRefIdeal.main_v5_0) = v0 c
          ∧ r.2.mem ((c.tc : Thread Cert.StatsRefIdeal.nD Cert.StatsRefIdeal.τ).loc Cert.StatsRefIdeal.main_v5_1) = v1 c
          ∧ r.2.mem ((c.tc : Thread Cert.StatsRefIdeal.nD Cert.StatsRefIdeal.τ).loc Cert.StatsRefIdeal.main_v5_2) = v2 c
          ∧ r.2.mem ((c.tc : Thread Cert.StatsRefIdeal.nD Cert.StatsRefIdeal.τ).loc Cert.StatsRefIdeal.main_v5_3) = v3 c
          ∧ r.2.mem ((c.tc : Thread Cert.StatsRefIdeal.nD Cert.StatsRefIdeal.τ).loc Cert.StatsRefIdeal.main_v5_4) = v4 c
          ∧ r.2.mem ((c.tc : Thread Cert.StatsRefIdeal.nD Cert.StatsRefIdeal.τ).loc Cert.StatsRefIdeal.main_v5_5) = v5 c
          ∧ r.2.mem ((c.tc : Thread Cert.StatsRefIdeal.nD Cert.StatsRefIdeal.τ).loc Cert.StatsRefIdeal.main_v5_6) = v6 c
          ∧ r.2.mem ((c.tc : Thread Cert.StatsRefIdeal.nD Cert.StatsRefIdeal.τ).loc Cert.StatsRefIdeal.main_v5_7) = v7 c
          ∧ r.2.mem ((c.tc : Thread Cert.StatsRefIdeal.nD Cert.StatsRefIdeal.τ).loc Cert.StatsRefIdeal.main_arg0) = m' ((c.tc : Thread Cert.StatsRefIdeal.nD Cert.StatsRefIdeal.τ).loc Cert.StatsRefIdeal.main_arg0)
          ∧ r.2.mem ((c.tc : Thread Cert.StatsRefIdeal.nD Cert.StatsRefIdeal.τ).loc Cert.StatsRefIdeal.main_arg1) = m' ((c.tc : Thread Cert.StatsRefIdeal.nD Cert.StatsRefIdeal.τ).loc Cert.StatsRefIdeal.main_arg1)
          ∧ r.2.mem ((c.tc : Thread Cert.StatsRefIdeal.nD Cert.StatsRefIdeal.τ).loc Cert.StatsRefIdeal.main_arg2) = m' ((c.tc : Thread Cert.StatsRefIdeal.nD Cert.StatsRefIdeal.τ).loc Cert.StatsRefIdeal.main_arg2)
          ∧ r.2.mem ((c.tc : Thread Cert.StatsRefIdeal.nD Cert.StatsRefIdeal.τ).loc Cert.StatsRefIdeal.main_arg3) = m' ((c.tc : Thread Cert.StatsRefIdeal.nD Cert.StatsRefIdeal.τ).loc Cert.StatsRefIdeal.main_arg3)
          ∧ r.2.mem ((c.tc : Thread Cert.StatsRefIdeal.nD Cert.StatsRefIdeal.τ).loc Cert.StatsRefIdeal.main_arg4) = m' ((c.tc : Thread Cert.StatsRefIdeal.nD Cert.StatsRefIdeal.τ).loc Cert.StatsRefIdeal.main_arg4)
          ∧ r.2.mem ((c.tc : Thread Cert.StatsRefIdeal.nD Cert.StatsRefIdeal.τ).loc Cert.StatsRefIdeal.main_arg5) = m' ((c.tc : Thread Cert.StatsRefIdeal.nD Cert.StatsRefIdeal.τ).loc Cert.StatsRefIdeal.main_arg5)
          ∧ r.2.mem ((c.tc : Thread Cert.StatsRefIdeal.nD Cert.StatsRefIdeal.τ).loc Cert.StatsRefIdeal.main_arg6) = m' ((c.tc : Thread Cert.StatsRefIdeal.nD Cert.StatsRefIdeal.τ).loc Cert.StatsRefIdeal.main_arg6)
          ∧ r.2.mem ((c.tc : Thread Cert.StatsRefIdeal.nD Cert.StatsRefIdeal.τ).loc Cert.StatsRefIdeal.main_arg7) = m' ((c.tc : Thread Cert.StatsRefIdeal.nD Cert.StatsRefIdeal.τ).loc Cert.StatsRefIdeal.main_arg7)
          ∧ r.2.mem ((c.tc : Thread Cert.StatsRefIdeal.nD Cert.StatsRefIdeal.τ).loc Cert.StatsRefIdeal.main_arg8) = m' ((c.tc : Thread Cert.StatsRefIdeal.nD Cert.StatsRefIdeal.τ).loc Cert.StatsRefIdeal.main_arg8))

def preserves_Grad_GradIdeal : Prop :=
  True

def algebraic_GradIdeal_GradRefIdeal_pre_grad_defined [hGradIdeal : Cert.GradIdeal.Facts] [hGradRefIdeal : Cert.GradRefIdeal.Facts] [hPre_grad_defined : Cert.Pre_grad_defined.Facts] : Prop :=
  ∀ (m : (ℓ : Loc Cert.GradIdeal.nD Cert.GradIdeal.τ Cert.GradIdeal.sig) → Buf (Elt Ideal) ℓ) (g : Dev Cert.GradIdeal.nD → PrngReg)
    (m' : (ℓ : Loc Cert.GradRefIdeal.nD Cert.GradRefIdeal.τ Cert.GradRefIdeal.sig) → Buf (Elt Ideal) ℓ) (g' : Dev Cert.GradRefIdeal.nD → PrngReg), Pre_GradIdeal_grad_defined m →
    (∀ c : Dev Cert.GradIdeal.nD,
      m' ((c.tc : Thread Cert.GradRefIdeal.nD Cert.GradRefIdeal.τ).loc Cert.GradRefIdeal.main_arg0) = m ((c.tc : Thread Cert.GradIdeal.nD Cert.GradIdeal.τ).loc Cert.GradIdeal.main_arg0)
      ∧ m' ((c.tc : Thread Cert.GradRefIdeal.nD Cert.GradRefIdeal.τ).loc Cert.GradRefIdeal.main_arg1) = m ((c.tc : Thread Cert.GradIdeal.nD Cert.GradIdeal.τ).loc Cert.GradIdeal.main_arg1)
      ∧ m' ((c.tc : Thread Cert.GradRefIdeal.nD Cert.GradRefIdeal.τ).loc Cert.GradRefIdeal.main_arg2) = m ((c.tc : Thread Cert.GradIdeal.nD Cert.GradIdeal.τ).loc Cert.GradIdeal.main_arg2)
      ∧ m' ((c.tc : Thread Cert.GradRefIdeal.nD Cert.GradRefIdeal.τ).loc Cert.GradRefIdeal.main_arg3) = m ((c.tc : Thread Cert.GradIdeal.nD Cert.GradIdeal.τ).loc Cert.GradIdeal.main_arg3)
      ∧ m' ((c.tc : Thread Cert.GradRefIdeal.nD Cert.GradRefIdeal.τ).loc Cert.GradRefIdeal.main_arg4) = m ((c.tc : Thread Cert.GradIdeal.nD Cert.GradIdeal.τ).loc Cert.GradIdeal.main_arg4)
      ∧ m' ((c.tc : Thread Cert.GradRefIdeal.nD Cert.GradRefIdeal.τ).loc Cert.GradRefIdeal.main_arg5) = m ((c.tc : Thread Cert.GradIdeal.nD Cert.GradIdeal.τ).loc Cert.GradIdeal.main_arg5)
      ∧ m' ((c.tc : Thread Cert.GradRefIdeal.nD Cert.GradRefIdeal.τ).loc Cert.GradRefIdeal.main_arg6) = m ((c.tc : Thread Cert.GradIdeal.nD Cert.GradIdeal.τ).loc Cert.GradIdeal.main_arg6)
      ∧ m' ((c.tc : Thread Cert.GradRefIdeal.nD Cert.GradRefIdeal.τ).loc Cert.GradRefIdeal.main_arg7) = m ((c.tc : Thread Cert.GradIdeal.nD Cert.GradIdeal.τ).loc Cert.GradIdeal.main_arg7)) →
    ∃ (v0 : (c : Dev Cert.GradIdeal.nD) → Buf (Elt Ideal) ((c.tc : Thread Cert.GradIdeal.nD Cert.GradIdeal.τ).loc Cert.GradIdeal.main_v14_0)) (v1 : (c : Dev Cert.GradIdeal.nD) → Buf (Elt Ideal) ((c.tc : Thread Cert.GradIdeal.nD Cert.GradIdeal.τ).loc Cert.GradIdeal.main_v14_1)),
      θ_run (Cert.GradIdeal.defs (F := Ideal)) (onTc (τ := Cert.GradIdeal.τ) (Cert.GradIdeal.main (F := Ideal))) ⟨m, fun _ => 0, g⟩ (fun r => ∀ c : Dev Cert.GradIdeal.nD,
          r.2.mem ((c.tc : Thread Cert.GradIdeal.nD Cert.GradIdeal.τ).loc Cert.GradIdeal.main_v14_0) = v0 c
          ∧ r.2.mem ((c.tc : Thread Cert.GradIdeal.nD Cert.GradIdeal.τ).loc Cert.GradIdeal.main_v14_1) = v1 c
          ∧ r.2.mem ((c.tc : Thread Cert.GradIdeal.nD Cert.GradIdeal.τ).loc Cert.GradIdeal.main_arg0) = m ((c.tc : Thread Cert.GradIdeal.nD Cert.GradIdeal.τ).loc Cert.GradIdeal.main_arg0)
          ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
          ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
          ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
          ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
          ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
          ∧ r.2.mem ((c.tc : Thread Cert.GradIdeal.nD Cert.GradIdeal.τ).loc Cert.GradIdeal.main_arg6) = m ((c.tc : Thread Cert.GradIdeal.nD Cert.GradIdeal.τ).loc Cert.GradIdeal.main_arg6)
          ∧ r.2.mem ((c.tc : Thread Cert.GradIdeal.nD Cert.GradIdeal.τ).loc Cert.GradIdeal.main_arg7) = m ((c.tc : Thread Cert.GradIdeal.nD Cert.GradIdeal.τ).loc Cert.GradIdeal.main_arg7))
      ∧ θ_run (Cert.GradRefIdeal.defs (F := Ideal)) (onTc (τ := Cert.GradRefIdeal.τ) (Cert.GradRefIdeal.main (F := Ideal))) ⟨m', fun _ => 0, g'⟩ (fun r => ∀ c : Dev Cert.GradRefIdeal.nD,
          r.2.mem ((c.tc : Thread Cert.GradRefIdeal.nD Cert.GradRefIdeal.τ).loc Cert.GradRefIdeal.main_v6_0) = v0 c
          ∧ r.2.mem ((c.tc : Thread Cert.GradRefIdeal.nD Cert.GradRefIdeal.τ).loc Cert.GradRefIdeal.main_v6_1) = v1 c
          ∧ r.2.mem ((c.tc : Thread Cert.GradRefIdeal.nD Cert.GradRefIdeal.τ).loc Cert.GradRefIdeal.main_arg0) = m' ((c.tc : Thread Cert.GradRefIdeal.nD Cert.GradRefIdeal.τ).loc Cert.GradRefIdeal.main_arg0)
          ∧ r.2.mem ((c.tc : Thread Cert.GradRefIdeal.nD Cert.GradRefIdeal.τ).loc Cert.GradRefIdeal.main_arg1) = m' ((c.tc : Thread Cert.GradRefIdeal.nD Cert.GradRefIdeal.τ).loc Cert.GradRefIdeal.main_arg1)
          ∧ r.2.mem ((c.tc : Thread Cert.GradRefIdeal.nD Cert.GradRefIdeal.τ).loc Cert.GradRefIdeal.main_arg2) = m' ((c.tc : Thread Cert.GradRefIdeal.nD Cert.GradRefIdeal.τ).loc Cert.GradRefIdeal.main_arg2)
          ∧ r.2.mem ((c.tc : Thread Cert.GradRefIdeal.nD Cert.GradRefIdeal.τ).loc Cert.GradRefIdeal.main_arg3) = m' ((c.tc : Thread Cert.GradRefIdeal.nD Cert.GradRefIdeal.τ).loc Cert.GradRefIdeal.main_arg3)
          ∧ r.2.mem ((c.tc : Thread Cert.GradRefIdeal.nD Cert.GradRefIdeal.τ).loc Cert.GradRefIdeal.main_arg4) = m' ((c.tc : Thread Cert.GradRefIdeal.nD Cert.GradRefIdeal.τ).loc Cert.GradRefIdeal.main_arg4)
          ∧ r.2.mem ((c.tc : Thread Cert.GradRefIdeal.nD Cert.GradRefIdeal.τ).loc Cert.GradRefIdeal.main_arg5) = m' ((c.tc : Thread Cert.GradRefIdeal.nD Cert.GradRefIdeal.τ).loc Cert.GradRefIdeal.main_arg5)
          ∧ r.2.mem ((c.tc : Thread Cert.GradRefIdeal.nD Cert.GradRefIdeal.τ).loc Cert.GradRefIdeal.main_arg6) = m' ((c.tc : Thread Cert.GradRefIdeal.nD Cert.GradRefIdeal.τ).loc Cert.GradRefIdeal.main_arg6)
          ∧ r.2.mem ((c.tc : Thread Cert.GradRefIdeal.nD Cert.GradRefIdeal.τ).loc Cert.GradRefIdeal.main_arg7) = m' ((c.tc : Thread Cert.GradRefIdeal.nD Cert.GradRefIdeal.τ).loc Cert.GradRefIdeal.main_arg7))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v36) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def Claim : Prop :=
  ∃ (hStats : Cert.Stats.Facts) (hStatsIdeal : Cert.StatsIdeal.Facts) (hStatsRefIdeal : Cert.StatsRefIdeal.Facts) (hGrad : Cert.Grad.Facts) (hGradIdeal : Cert.GradIdeal.Facts) (hGradRefIdeal : Cert.GradRefIdeal.Facts) (hNorm : Cert.Norm.Facts) (hNormIdeal : Cert.NormIdeal.Facts) (hNormRefIdeal : Cert.NormRefIdeal.Facts) (hPre_grad_defined : Cert.Pre_grad_defined.Facts),
    quiescent_Stats (hStats := hStats)
    ∧ quiescent_StatsIdeal (hStatsIdeal := hStatsIdeal)
    ∧ quiescent_StatsRefIdeal (hStatsRefIdeal := hStatsRefIdeal)
    ∧ quiescent_Grad (hGrad := hGrad)
    ∧ quiescent_GradIdeal (hGradIdeal := hGradIdeal)
    ∧ quiescent_GradIdeal_pre_grad_defined (hGradIdeal := hGradIdeal) (hPre_grad_defined := hPre_grad_defined)
    ∧ quiescent_GradRefIdeal (hGradRefIdeal := hGradRefIdeal)
    ∧ quiescent_GradRefIdeal_pre_grad_defined (hGradRefIdeal := hGradRefIdeal) (hPre_grad_defined := hPre_grad_defined)
    ∧ quiescent_Norm (hNorm := hNorm)
    ∧ quiescent_NormIdeal (hNormIdeal := hNormIdeal)
    ∧ quiescent_NormRefIdeal (hNormRefIdeal := hNormRefIdeal)
    ∧ preserves_Stats_StatsIdeal
    ∧ algebraic_StatsIdeal_StatsRefIdeal (hStatsIdeal := hStatsIdeal) (hStatsRefIdeal := hStatsRefIdeal)
    ∧ preserves_Grad_GradIdeal
    ∧ algebraic_GradIdeal_GradRefIdeal_pre_grad_defined (hGradIdeal := hGradIdeal) (hGradRefIdeal := hGradRefIdeal) (hPre_grad_defined := hPre_grad_defined)
    ∧ preserves_Norm_NormIdeal
    ∧ algebraic_NormIdeal_NormRefIdeal (hNormIdeal := hNormIdeal) (hNormRefIdeal := hNormRefIdeal)
-- ==== Pre_grad_defined.lean ====
abbrev S2048x128256 : Shape := ⟨2, ![2048, 128256]⟩
abbrev S128256x3072 : Shape := ⟨2, ![128256, 3072]⟩
abbrev S128256 : Shape := ⟨1, ![128256]⟩
abbrev S2048 : Shape := ⟨1, ![2048]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S2048x128256 .f32) (main_arg1 : FVec F S128256x3072 .fp8e4m3) (main_arg2 : FVec F S128256 .f32) (main_arg3 : FVec F S2048 .f32) (main_arg4 : FVec F S2048 .f32) (main_arg5 : FVec F S2048 .f32) (main_arg6 : FVec F S2048 .f32) (main_arg7 : IVec S2048 32) : IVec S2048 1 :=
  let main_v0 : FVec F S2048 .f32 := Host.absf main_arg5
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_cst_0 : FVec F S_ .f32 := constant S_ .f32 0x00000000#32
  let main_v3 : FVec F S2048 .f32 := broadcastInDim S2048 ![] bcast_S_S2048 main_cst_0
  let main_v4 : IVec S2048 1 := cmpf .une main_arg4 main_v3
  let main_v5 : IVec S2048 1 := andi main_v2 main_v4
  let main_cst_1 : FVec F S_ .f32 := constant S_ .f32 0x00000000#32
  let main_v6 : FVec F S2048 .f32 := broadcastInDim S2048 ![] bcast_S_S2048 main_cst_1
  let main_v7 : IVec S2048 1 := cmpf .une main_arg6 main_v6
  let main_v8 : IVec S2048 1 := andi main_v5 main_v7
  main_v8
-- ==== Stats.lean ====
abbrev S2048x3072 : Shape := ⟨2, ![2048, 3072]⟩
abbrev S128256x3072 : Shape := ⟨2, ![128256, 3072]⟩
abbrev S128256 : Shape := ⟨1, ![128256]⟩
abbrev S2048 : Shape := ⟨1, ![2048]⟩
abbrev S2048x1 : Shape := ⟨2, ![2048, 1]⟩
abbrev S2048x128 : Shape := ⟨2, ![2048, 128]⟩
abbrev S1x128256 : Shape := ⟨2, ![1, 128256]⟩
abbrev S2048x128256 : Shape := ⟨2, ![2048, 128256]⟩
abbrev S768x3072 : Shape := ⟨2, ![768, 3072]⟩
abbrev S1x768 : Shape := ⟨2, ![1, 768]⟩
abbrev S2048x768 : Shape := ⟨2, ![2048, 768]⟩
abbrev S8x128 : Shape := ⟨2, ![8, 128]⟩
abbrev S512x128 : Shape := ⟨2, ![512, 128]⟩
abbrev S512x3072 : Shape := ⟨2, ![512, 3072]⟩
abbrev S512x768 : Shape := ⟨2, ![512, 768]⟩
abbrev S1x128 : Shape := ⟨2, ![1, 128]⟩

abbrev nBuf : Space → Nat
  | .hbm => 25
  | .vmem => 23
  | .smem => 0
  | _ => 0

abbrev bufTy : (tb : Table) → Fin (tcTables nBuf tb) → BufTy
  | .hbm, ⟨0, _⟩ => ⟨S2048x3072, .fp8e4m3⟩
  | .hbm, ⟨1, _⟩ => ⟨S2048x3072, .fp8e4m3⟩
  | .hbm, ⟨2, _⟩ => ⟨S128256x3072, .fp8e4m3⟩
  | .hbm, ⟨3, _⟩ => ⟨S128256x3072, .fp8e4m3⟩
  | .hbm, ⟨4, _⟩ => ⟨S128256, .f32⟩
  | .hbm, ⟨5, _⟩ => ⟨S128256, .f32⟩
  | .hbm, ⟨6, _⟩ => ⟨S2048, .f32⟩
  | .hbm, ⟨7, _⟩ => ⟨S2048, .f32⟩
  | .hbm, ⟨8, _⟩ => ⟨S2048, .i32⟩
  | .hbm, ⟨9, _⟩ => ⟨S2048x1, .f32⟩
  | .hbm, ⟨10, _⟩ => ⟨S2048x128, .f32⟩
  | .hbm, ⟨11, _⟩ => ⟨S2048x1, .f32⟩
  | .hbm, ⟨12, _⟩ => ⟨S2048x128, .f32⟩
  | .hbm, ⟨13, _⟩ => ⟨S2048x1, .i32⟩
  | .hbm, ⟨14, _⟩ => ⟨S2048x128, .i32⟩
  | .hbm, ⟨15, _⟩ => ⟨S1x128256, .f32⟩
  | .hbm, ⟨16, _⟩ => ⟨S1x128256, .f32⟩
  | .hbm, ⟨17, _⟩ => ⟨S2048x128256, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S2048x128, .f32⟩
  | .hbm, ⟨23, _⟩ => ⟨S2048x128, .f32⟩
  | .hbm, ⟨24, _⟩ => ⟨S2048x128, .f32⟩
  | .local _ .vmem, ⟨0, _⟩ => ⟨S2048x3072, .fp8e4m3⟩
  | .local _ .vmem, ⟨1, _⟩ => ⟨S2048x3072, .fp8e4m3⟩
  | .local _ .vmem, ⟨2, _⟩ => ⟨S768x3072, .fp8e4m3⟩
  | .local _ .vmem, ⟨3, _⟩ => ⟨S768x3072, .fp8e4m3⟩
  | .local _ .vmem, ⟨4, _⟩ => ⟨S768x3072, .fp8e4m3⟩
  | .local _ .vmem, ⟨5, _⟩ => ⟨S768x3072, .fp8e4m3⟩
  | .local _ .vmem, ⟨6, _⟩ => ⟨S1x768, .f32⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S2048x128, .f32⟩
  | .local _ .vmem, ⟨11, _⟩ => ⟨S2048x128, .f32⟩
  | .local _ .vmem, ⟨12, _⟩ => ⟨S2048x128, .i32⟩
  | .local _ .vmem, ⟨13, _⟩ => ⟨S2048x768, .f32⟩
  | .local _ .vmem, ⟨14, _⟩ => ⟨S2048x768, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S8x128, .f32⟩
  | _, _ => ⟨S2048x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev main_v8_6 : Ref sig .tc := ⟨.hbm, 23, rfl⟩
abbrev main_v8_7 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_scratch0 : Ref sig .tc := ⟨.vmem, 22, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21

abbrev nD : Nat := 1
abbrev τ : Topo := Topo.v7x

variable {F : FTy → Type} [FloatOps F]

abbrev grid0 : Pipeline.Grid := ⟨1, ![167], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x3072 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x3072 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2048x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2048x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== StatsRefIdeal.lean ====
abbrev S2048x3072 : Shape := ⟨2, ![2048, 3072]⟩
abbrev S128256x3072 : Shape := ⟨2, ![128256, 3072]⟩
abbrev S128256 : Shape := ⟨1, ![128256]⟩
abbrev S2048 : Shape := ⟨1, ![2048]⟩
abbrev S1x128256 : Shape := ⟨2, ![1, 128256]⟩
abbrev S2048x1 : Shape := ⟨2, ![2048, 1]⟩
abbrev S2048x128256 : Shape := ⟨2, ![2048, 128256]⟩
abbrev S2048x128 : Shape := ⟨2, ![2048, 128]⟩
abbrev S2048x1002x128 : Shape := ⟨3, ![2048, 1002, 128]⟩
abbrev S2048x1x128 : Shape := ⟨3, ![2048, 1, 128]⟩

abbrev nBuf : Space → Nat
  | .hbm => 22
  | .vmem => 17
  | .smem => 0
  | _ => 0

abbrev bufTy : (tb : Table) → Fin (tcTables nBuf tb) → BufTy
  | .hbm, ⟨0, _⟩ => ⟨S2048x3072, .fp8e4m3⟩
  | .hbm, ⟨1, _⟩ => ⟨S2048x3072, .fp8e4m3⟩
  | .hbm, ⟨2, _⟩ => ⟨S128256x3072, .fp8e4m3⟩
  | .hbm, ⟨3, _⟩ => ⟨S128256x3072, .fp8e4m3⟩
  | .hbm, ⟨4, _⟩ => ⟨S128256, .f32⟩
  | .hbm, ⟨5, _⟩ => ⟨S128256, .f32⟩
  | .hbm, ⟨6, _⟩ => ⟨S2048, .f32⟩
  | .hbm, ⟨7, _⟩ => ⟨S2048, .f32⟩
  | .hbm, ⟨8, _⟩ => ⟨S2048, .i32⟩
  | .hbm, ⟨9, _⟩ => ⟨S1x128256, .f32⟩
  | .hbm, ⟨10, _⟩ => ⟨S1x128256, .f32⟩
  | .hbm, ⟨11, _⟩ => ⟨S2048x1, .f32⟩
  | .hbm, ⟨12, _⟩ => ⟨S2048x1, .f32⟩
  | .hbm, ⟨13, _⟩ => ⟨S2048x1, .i32⟩
  | .hbm, ⟨14, _⟩ => ⟨S2048x128256, .f32⟩
  | .hbm, ⟨15, _⟩ => ⟨S2048x128, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S2048x128, .f32⟩
  | .local _ .vmem, ⟨0, _⟩ => ⟨S2048x3072, .fp8e4m3⟩
  | .local _ .vmem, ⟨1, _⟩ => ⟨S2048x3072, .fp8e4m3⟩
  | .local _ .vmem, ⟨2, _⟩ => ⟨S128256x3072, .fp8e4m3⟩
  | .local _ .vmem, ⟨3, _⟩ => ⟨S128256x3072, .fp8e4m3⟩
  | .local _ .vmem, ⟨4, _⟩ => ⟨S1x128256, .f32⟩
  | .local _ .vmem, ⟨5, _⟩ => ⟨S1x128256, .f32⟩
  | .local _ .vmem, ⟨6, _⟩ => ⟨S2048x1, .f32⟩
  | .local _ .vmem, ⟨7, _⟩ => ⟨S2048x1, .f32⟩
  | .local _ .vmem, ⟨8, _⟩ => ⟨S2048x1, .i32⟩
  | .local _ .vmem, ⟨9, _⟩ => ⟨S2048x128256, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | _, _ => ⟨S2048x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev main_v5_6 : Ref sig .tc := ⟨.hbm, 20, rfl⟩
abbrev main_v5_7 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S2048x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128256x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128256x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x128256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2048x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2048x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2048x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Grad.lean ====
abbrev S2048x128256 : Shape := ⟨2, ![2048, 128256]⟩
abbrev S128256x3072 : Shape := ⟨2, ![128256, 3072]⟩
abbrev S128256 : Shape := ⟨1, ![128256]⟩
abbrev S2048 : Shape := ⟨1, ![2048]⟩
abbrev S_ : Shape := ⟨0, ![]⟩
abbrev S2048x1 : Shape := ⟨2, ![2048, 1]⟩
abbrev S2048x128 : Shape := ⟨2, ![2048, 128]⟩
abbrev S1x128256 : Shape := ⟨2, ![1, 128256]⟩
abbrev S2048x3072 : Shape := ⟨2, ![2048, 3072]⟩
abbrev S2048x768 : Shape := ⟨2, ![2048, 768]⟩
abbrev S768x3072 : Shape := ⟨2, ![768, 3072]⟩
abbrev S1x768 : Shape := ⟨2, ![1, 768]⟩
abbrev S512x128 : Shape := ⟨2, ![512, 128]⟩
abbrev S1x128 : Shape := ⟨2, ![1, 128]⟩
abbrev S512x3072 : Shape := ⟨2, ![512, 3072]⟩
abbrev S512x768 : Shape := ⟨2, ![512, 768]⟩

abbrev nBuf : Space → Nat
  | .hbm => 25
  | .vmem => 13
  | .smem => 0
  | _ => 0

abbrev bufTy : (tb : Table) → Fin (tcTables nBuf tb) → BufTy
  | .hbm, ⟨0, _⟩ => ⟨S2048x128256, .f32⟩
  | .hbm, ⟨1, _⟩ => ⟨S128256x3072, .fp8e4m3⟩
  | .hbm, ⟨2, _⟩ => ⟨S128256, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .i32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048x1, .f32⟩
  | .hbm, ⟨13, _⟩ => ⟨S2048x128, .f32⟩
  | .hbm, ⟨14, _⟩ => ⟨S2048, .f32⟩
  | .hbm, ⟨15, _⟩ => ⟨S2048, .f32⟩
  | .hbm, ⟨16, _⟩ => ⟨S2048x1, .f32⟩
  | .hbm, ⟨17, _⟩ => ⟨S2048x128, .f32⟩
  | .hbm, ⟨18, _⟩ => ⟨S2048x1, .f32⟩
  | .hbm, ⟨19, _⟩ => ⟨S2048x128, .f32⟩
  | .hbm, ⟨20, _⟩ => ⟨S2048x1, .i32⟩
  | .hbm, ⟨21, _⟩ => ⟨S2048x128, .i32⟩
  | .hbm, ⟨22, _⟩ => ⟨S1x128256, .f32⟩
  | .hbm, ⟨23, _⟩ => ⟨S2048x128256, .fp8e5m2⟩
  | .hbm, ⟨24, _⟩ => ⟨S2048x3072, .f32⟩
  | .local _ .vmem, ⟨0, _⟩ => ⟨S2048x768, .f32⟩
  | .local _ .vmem, ⟨1, _⟩ => ⟨S2048x768, .f32⟩
  | .local _ .vmem, ⟨2, _⟩ => ⟨S768x3072, .fp8e4m3⟩
  | .local _ .vmem, ⟨3, _⟩ => ⟨S768x3072, .fp8e4m3⟩
  | .local _ .vmem, ⟨4, _⟩ => ⟨S1x768, .f32⟩
  | .local _ .vmem, ⟨5, _⟩ => ⟨S1x768, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .i32⟩
  | .local _ .vmem, ⟨10, _⟩ => ⟨S2048x768, .fp8e5m2⟩
  | .local _ .vmem, ⟨11, _⟩ => ⟨S2048x768, .fp8e5m2⟩
  | .local _ .vmem, ⟨12, _⟩ => ⟨S2048x3072, .f32⟩
  | _, _ => ⟨S2048x128256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![167], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x3072 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x768 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GradRefIdeal.lean ====
abbrev S2048x128256 : Shape := ⟨2, ![2048, 128256]⟩
abbrev S128256x3072 : Shape := ⟨2, ![128256, 3072]⟩
abbrev S128256 : Shape := ⟨1, ![128256]⟩
abbrev S2048 : Shape := ⟨1, ![2048]⟩
abbrev S1x128256 : Shape := ⟨2, ![1, 128256]⟩
abbrev S2048x1 : Shape := ⟨2, ![2048, 1]⟩
abbrev S2048x3072 : Shape := ⟨2, ![2048, 3072]⟩

abbrev nBuf : Space → Nat
  | .hbm => 16
  | .vmem => 10
  | .smem => 0
  | _ => 0

abbrev bufTy : (tb : Table) → Fin (tcTables nBuf tb) → BufTy
  | .hbm, ⟨0, _⟩ => ⟨S2048x128256, .f32⟩
  | .hbm, ⟨1, _⟩ => ⟨S128256x3072, .fp8e4m3⟩
  | .hbm, ⟨2, _⟩ => ⟨S128256, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .i32⟩
  | .hbm, ⟨8, _⟩ => ⟨S1x128256, .f32⟩
  | .hbm, ⟨9, _⟩ => ⟨S2048x1, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1, .i32⟩
  | .hbm, ⟨14, _⟩ => ⟨S2048x128256, .fp8e5m2⟩
  | .hbm, ⟨15, _⟩ => ⟨S2048x3072, .f32⟩
  | .local _ .vmem, ⟨0, _⟩ => ⟨S2048x128256, .f32⟩
  | .local _ .vmem, ⟨1, _⟩ => ⟨S128256x3072, .fp8e4m3⟩
  | .local _ .vmem, ⟨2, _⟩ => ⟨S1x128256, .f32⟩
  | .local _ .vmem, ⟨3, _⟩ => ⟨S2048x1, .f32⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x1, .i32⟩
  | .local _ .vmem, ⟨8, _⟩ => ⟨S2048x128256, .fp8e5m2⟩
  | .local _ .vmem, ⟨9, _⟩ => ⟨S2048x3072, .f32⟩
  | _, _ => ⟨S2048x128256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2048x128256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128256x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x128256 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Norm.lean ====
abbrev S2048x3072 : Shape := ⟨2, ![2048, 3072]⟩
abbrev S3072 : Shape := ⟨1, ![3072]⟩
abbrev S2048 : Shape := ⟨1, ![2048]⟩
abbrev S2048x1 : Shape := ⟨2, ![2048, 1]⟩
abbrev S2048x128 : Shape := ⟨2, ![2048, 128]⟩
abbrev S1x3072 : Shape := ⟨2, ![1, 3072]⟩
abbrev S256x3072 : Shape := ⟨2, ![256, 3072]⟩
abbrev S256x128 : Shape := ⟨2, ![256, 128]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S2048x3072, .f32⟩
  | .hbm, ⟨1, _⟩ => ⟨S2048x3072, .bf16⟩
  | .hbm, ⟨2, _⟩ => ⟨S3072, .f32⟩
  | .hbm, ⟨3, _⟩ => ⟨S2048, .f32⟩
  | .hbm, ⟨4, _⟩ => ⟨S2048x1, .f32⟩
  | .hbm, ⟨5, _⟩ => ⟨S2048x128, .f32⟩
  | .hbm, ⟨6, _⟩ => ⟨S1x3072, .f32⟩
  | .hbm, ⟨7, _⟩ => ⟨S2048x3072, .bf16⟩
  | .local _ .vmem, ⟨0, _⟩ => ⟨S256x3072, .f32⟩
  | .local _ .vmem, ⟨1, _⟩ => ⟨S256x3072, .f32⟩
  | .local _ .vmem, ⟨2, _⟩ => ⟨S256x3072, .bf16⟩
  | .local _ .vmem, ⟨3, _⟩ => ⟨S256x3072, .bf16⟩
  | .local _ .vmem, ⟨4, _⟩ => ⟨S1x3072, .f32⟩
  | .local _ .vmem, ⟨5, _⟩ => ⟨S256x128, .f32⟩
  | .local _ .vmem, ⟨6, _⟩ => ⟨S256x128, .f32⟩
  | .local _ .vmem, ⟨7, _⟩ => ⟨S256x3072, .bf16⟩
  | .local _ .vmem, ⟨8, _⟩ => ⟨S256x3072, .bf16⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S2048x3072 : Shape := ⟨2, ![2048, 3072]⟩
abbrev S3072 : Shape := ⟨1, ![3072]⟩
abbrev S2048 : Shape := ⟨1, ![2048]⟩
abbrev S_ : Shape := ⟨0, ![]⟩
abbrev S2048x1 : Shape := ⟨2, ![2048, 1]⟩
abbrev S1x3072 : Shape := ⟨2, ![1, 3072]⟩

abbrev nBuf : Space → Nat
  | .hbm => 47
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x3072, .bf16⟩
  | .hbm, ⟨2, _⟩ => ⟨S3072, .f32⟩
  | .hbm, ⟨3, _⟩ => ⟨S2048, .f32⟩
  | .hbm, ⟨4, _⟩ => ⟨S2048x3072, .f32⟩
  | .hbm, ⟨5, _⟩ => ⟨S2048x3072, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x3072, .f32⟩
  | .hbm, ⟨20, _⟩ => ⟨S2048x3072, .f32⟩
  | .hbm, ⟨21, _⟩ => ⟨S1x3072, .f32⟩
  | .hbm, ⟨22, _⟩ => ⟨S2048x3072, .f32⟩
  | .hbm, ⟨23, _⟩ => ⟨S2048x3072, .f32⟩
  | .hbm, ⟨24, _⟩ => ⟨S2048x1, .f32⟩
  | .hbm, ⟨25, _⟩ => ⟨S2048x3072, .f32⟩
  | .hbm, ⟨26, _⟩ => ⟨S2048x3072, .f32⟩
  | .hbm, ⟨27, _⟩ => ⟨S1x3072, .f32⟩
  | .hbm, ⟨28, _⟩ => ⟨S2048x3072, .f32⟩
  | .hbm, ⟨29, _⟩ => ⟨S2048x3072, .f32⟩
  | .hbm, ⟨30, _⟩ => ⟨S2048x3072, .f32⟩
  | .hbm, ⟨31, _⟩ => ⟨S2048x3072, .f32⟩
  | .hbm, ⟨32, _⟩ => ⟨S2048x1, .f32⟩
  | .hbm, ⟨33, _⟩ => ⟨S2048x1, .f32⟩
  | .hbm, ⟨34, _⟩ => ⟨S2048x3072, .f32⟩
  | .hbm, ⟨35, _⟩ => ⟨S2048x3072, .f32⟩
  | .hbm, ⟨36, _⟩ => ⟨S2048x3072, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048x3072, .f32⟩
  | .hbm, ⟨44, _⟩ => ⟨S2048x3072, .f32⟩
  | .hbm, ⟨45, _⟩ => ⟨S2048x3072, .f32⟩
  | .hbm, ⟨46, _⟩ => ⟨S2048x3072, .bf16⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Proof.NormValue.lean ====
/- The value of the normalisation's backward kernel: the array it writes is the reference's composed term. -/
module

public import proofs.«01_k».proof.Proof.Gen.NormIdeal.Value
public import proofs.«01_k».proof.Proof.Gen.NormRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.NormRefIdeal.Term

open Cert.NormRefIdeal Cert.NormRefIdeal.Gen Idealize.ShloMosaic Idealize.ShloMosaic.TcCoe
open Cert.NormRefIdeal.Facts

/-- The reference's result as one term of its four arguments. -/
def REF (DN : FVec Ideal S2048x3072 .f32) (X : FVec Ideal S2048x3072 .bf16) (GP : FVec Ideal S3072 .f32)
    (GS : FVec Ideal S2048 .f32) : FVec Ideal S2048x3072 .bf16 :=
  truncf (F := Ideal) .bf16 (subf (mulf (broadcastInDim S2048x3072 ![0, 1] bcast_S2048x1_S2048x3072_0_1 (Host.divf (broadcastInDim S2048x1 ![] bcast_S_S2048x1 (constant S_ .f32 0x3F800000#32)) (Host.sqrt (addf (Host.divf (broadcastInDim S2048x1 ![0] bcast_S2048_S2048x1_0 (Host.reduceAdd (mulf (extf .f32 X bitsLt_bf16_f32) (extf .f32 X bitsLt_bf16_f32)) (constant S_ .f32 0x00000000#32) reducesTo_S2048x3072_S2048_d1 h_S_)) (broadcastInDim S2048x1 ![] bcast_S_S2048x1 (constant S_ .f32 0x45400000#32))) (broadcastInDim S2048x1 ![] bcast_S_S2048x1 (constant S_ .f32 0x358637BD#32)))))) (mulf (mulf DN (broadcastInDim S2048x3072 ![0, 1] bcast_S2048x1_S2048x3072_0_1 (broadcastInDim S2048x1 ![0] bcast_S2048_S2048x1_0 GS))) (broadcastInDim S2048x3072 ![0, 1] bcast_S1x3072_S2048x3072_0_1 (broadcastInDim S1x3072 ![1] bcast_S3072_S1x3072_1 GP)))) (mulf (mulf (extf .f32 X bitsLt_bf16_f32) (broadcastInDim S2048x3072 ![0, 1] bcast_S2048x1_S2048x3072_0_1 (mulf (mulf (Host.divf (broadcastInDim S2048x1 ![] bcast_S_S2048x1 (constant S_ .f32 0x3F800000#32)) (Host.sqrt (addf (Host.divf (broadcastInDim S2048x1 ![0] bcast_S2048_S2048x1_0 (Host.reduceAdd (mulf (extf .f32 X bitsLt_bf16_f32) (extf .f32 X bitsLt_bf16_f32)) (constant S_ .f32 0x00000000#32) reducesTo_S2048x3072_S2048_d1 h_S_)) (broadcastInDim S2048x1 ![] bcast_S_S2048x1 (constant S_ .f32 0x45400000#32))) (broadcastInDim S2048x1 ![] bcast_S_S2048x1 (constant S_ .f32 0x358637BD#32))))) (Host.divf (broadcastInDim S2048x1 ![] bcast_S_S2048x1 (constant S_ .f32 0x3F800000#32)) (Host.sqrt (addf (Host.divf (broadcastInDim S2048x1 ![0] bcast_S2048_S2048x1_0 (Host.reduceAdd (mulf (extf .f32 X bitsLt_bf16_f32) (extf .f32 X bitsLt_bf16_f32)) (constant S_ .f32 0x00000000#32) reducesTo_S2048x3072_S2048_d1 h_S_)) (broadcastInDim S2048x1 ![] bcast_S_S2048x1 (constant S_ .f32 0x45400000#32))) (broadcastInDim S2048x1 ![] bcast_S_S2048x1 (constant S_ .f32 0x358637BD#32)))))) (Host.divf (broadcastInDim S2048x1 ![] bcast_S_S2048x1 (constant S_ .f32 0x3F800000#32)) (Host.sqrt (addf (Host.divf (broadcastInDim S2048x1 ![0] bcast_S2048_S2048x1_0 (Host.reduceAdd (mulf (extf .f32 X bitsLt_bf16_f32) (extf .f32 X bitsLt_bf16_f32)) (constant S_ .f32 0x00000000#32) reducesTo_S2048x3072_S2048_d1 h_S_)) (broadcastInDim S2048x1 ![] bcast_S_S2048x1 (constant S_ .f32 0x45400000#32))) (broadcastInDim S2048x1 ![] bcast_S_S2048x1 (constant S_ .f32 0x358637BD#32)))))))) (broadcastInDim S2048x3072 ![0, 1] bcast_S2048x1_S2048x3072_0_1 (Host.divf (broadcastInDim S2048x1 ![0] bcast_S2048_S2048x1_0 (Host.reduceAdd (mulf (mulf (mulf DN (broadcastInDim S2048x3072 ![0, 1] bcast_S2048x1_S2048x3072_0_1 (broadcastInDim S2048x1 ![0] bcast_S2048_S2048x1_0 GS))) (broadcastInDim S2048x3072 ![0, 1] bcast_S1x3072_S2048x3072_0_1 (broadcastInDim S1x3072 ![1] bcast_S3072_S1x3072_1 GP))) (extf .f32 X bitsLt_bf16_f32)) (constant S_ .f32 0x00000000#32) reducesTo_S2048x3072_S2048_d1 h_S_)) (broadcastInDim S2048x1 ![] bcast_S_S2048x1 (constant S_ .f32 0x45400000#32)))))) bitsLt_bf16_f32

end Cert.NormRefIdeal.Term

namespace Cert.NormIdeal.Val

open Cert.NormIdeal Cert.NormIdeal.Gen Idealize.ShloMosaic Idealize.ShloMosaic.TcCoe Idealize.SL.Sem
open Idealize.ShloMosaic.Pipeline (Dat)
open Cert.NormRefIdeal.Term

variable (m : (ℓ : Loc nD τ sig) → Buf (Elt Ideal) ℓ)

/-- The block index of every window at every grid point. -/
theorem idx : ∀ t : Fin cfg0.N, win0_0.index t = ![t.val, 0] ∧ win0_1.index t = ![t.val, 0]
    ∧ win0_2.index t = ![0, 0] ∧ win0_3.index t = ![t.val, 0] ∧ win0_4.index t = ![t.val, 0] :=
  (by decide +kernel : ∀ t : Fin grid0.N, _)

/-- The array the kernel writes is the reference's term of the same four arguments. -/
theorem final (c : Dev nD) : (dats m 0 c).arrAt 4 cfg0.N
    = REF (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, REF]
  blk_point [iblk, V, idx t]

end Cert.NormIdeal.Val

end
-- ==== Proof.GradCodes.lean ====
/- The block of gradient codes that one grid point leaves, element by element. -/
module

public import proofs.«01_k».proof.Proof.Gen.GradIdeal.Value
public import Idealize.ShloMosaic.Lib.Pipeline.ValueKit
public import Idealize.ShloMosaic.Lib.Pointwise
public import Idealize.ShloMosaic.Lib.Claim

@[expose] public section

set_option maxRecDepth 16384

noncomputable section

namespace Cert.GradIdeal.Val

open Cert.GradIdeal Cert.GradIdeal.Gen Idealize.ShloMosaic Idealize.ShloMosaic.TcCoe Idealize.SL.Sem
open Idealize.ShloMosaic.Pipeline (Dat)

variable (m : (ℓ : Loc nD τ sig) → Buf (Elt Ideal) ℓ)

/-- One element of the codes' block: row `r`, column `v`, lane `l`, and the column's chunk offset `w` as a word. -/
def KF (j : BitVec 32) (z : FVec Ideal S2048x768 .f32) (s : FVec Ideal S1x768 .f32) (mb nb a : FVec Ideal S2048x128 .f32)
    (lab : IVec S2048x128 32) (r : Fin 2048) (v : Fin 768) (l : Fin 128) (w : BitVec 32) : EReal :=
  min (Ideal.ofBits FTy.f32 1197473792#32)
      (max (Ideal.ofBits FTy.f32 3344957440#32)
        (Scalar.select
            (IntOp.cmpi CmpIPredicate.eq
              (IntOp.subi (IntOp.subi (lab (ix2 r l)) (Scalar.muli j 768#32)) (BitVec.ofNat 32 l)) w)
            (FloatOps.exp2 (F := Ideal) (φ := .f32) (z (ix2 r v) - mb (ix2 r l)) * nb (ix2 r l) + a (ix2 r l))
            (FloatOps.exp2 (F := Ideal) (φ := .f32) (z (ix2 r v) - mb (ix2 r l)) * nb (ix2 r l))
          * s (ix2 0 v)))

/-- The same with the lane and the chunk offset computed from the column. -/
def KB (j : BitVec 32) (z : FVec Ideal S2048x768 .f32) (s : FVec Ideal S1x768 .f32) (mb nb a : FVec Ideal S2048x128 .f32)
    (lab : IVec S2048x128 32) (r : Fin 2048) (v : Fin 768) : EReal :=
  KF j z s mb nb a lab r v ⟨v % 128, Nat.mod_lt _ (by decide)⟩ (BitVec.ofNat 32 (v - v % 128))

/-- `KB` at a row and a column given by their values. -/
theorem KB_at (j : BitVec 32) (z : FVec Ideal S2048x768 .f32) (s : FVec Ideal S1x768 .f32) (mb nb a : FVec Ideal S2048x128 .f32)
    (lab : IVec S2048x128 32) (r : Fin 2048) (v : Fin 768) (l : Fin 128) (w : BitVec 32) {n k : ℕ} (hr : (r : ℕ) = n)
    (hv : (v : ℕ) = k) (hl : (l : ℕ) = k % 128) (hw : w = BitVec.ofNat 32 (k - l)) :
    KF j z s mb nb a lab ⟨n, hr ▸ r.isLt⟩ ⟨k, hv ▸ v.isLt⟩ l w = KB j z s mb nb a lab r v := by
  subst hr hv hw
  obtain rfl : l = ⟨v % 128, Nat.mod_lt _ (by decide)⟩ := Fin.ext hl
  rfl

set_option maxHeartbeats 4000000 in
/-- The block of codes that the first point leaves. -/
theorem blockA (c : Dev nD) (t : Fin cfg0.N) (h : t.val % 167 = 0) (y : S2048x768.Idx) :
    (outsAt0 m c t.val t.isLt).1 y = KB (BitVec.ofNat 32 (grid0.coords t 0)) (iblk m c 0 t) (iblk m c 2 t) (iblk m c 3 t) (iblk m c 4 t) (iblk m c 5 t) (iblk m c 6 t) (y 0) (y 1) := by
  rw [outsAt0_A m c t h]
  frame_out
  canon_tiles x h
  all_goals
    open_payloads; pointwise
    exact KB_at _ _ _ _ _ _ _ (y 0) (y 1) (x 1) _ h0 h1 (by omega) (by first | rw [Nat.add_sub_cancel] | rw [Nat.sub_self])

set_option maxHeartbeats 4000000 in
/-- The block of codes that any later point leaves. -/
theorem blockB (c : Dev nD) (t : Fin cfg0.N) (h : ¬ t.val % 167 = 0) (y : S2048x768.Idx) :
    (outsAt0 m c t.val t.isLt).1 y = KB (BitVec.ofNat 32 (grid0.coords t 0)) (iblk m c 0 t) (iblk m c 2 t) (iblk m c 3 t) (iblk m c 4 t) (iblk m c 5 t) (iblk m c 6 t) (y 0) (y 1) := by
  rw [outsAt0_B m c t h]
  frame_out
  canon_tiles x h
  all_goals
    open_payloads; pointwise
    exact KB_at _ _ _ _ _ _ _ (y 0) (y 1) (x 1) _ h0 h1 (by omega) (by first | rw [Nat.add_sub_cancel] | rw [Nat.sub_self])

end Cert.GradIdeal.Val

end
-- ==== Proof.GradProd.lean ====
/- What one grid point leaves of the product of the codes with the weights. -/
module

public import proofs.«01_k».proof.Proof.GradCodes
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

namespace Cert.GradIdeal.Val

open Cert.GradIdeal Cert.GradIdeal.Gen Idealize.ShloMosaic Idealize.ShloMosaic.TcCoe Idealize.SL.Sem
open Idealize.ShloMosaic.Pipeline (Dat)

variable (m : (ℓ : Loc nD τ sig) → Buf (Elt Ideal) ℓ)

/-- What a list of stores leaves at an index that it covers, whatever was stored before it. -/
theorem canon_keep {Val : EltTy → Type} [∀ e, Nonempty (Val e)] {S : Shape} {e : EltTy} (L L' : List (View.Piece Val S e)) (y : S.Idx) (v : Val e)
    (h : View.canon L y = v) (hc : ∃ p ∈ L, y ∈ p.1.set) : View.canon (L ++ L') y = v := by
  induction L with
  | nil => obtain ⟨p, hp, _⟩ := hc; simp at hp
  | cons p L ih =>
    by_cases hm : y ∈ p.1.set
    · obtain ⟨x, rfl⟩ := p.1.exists_idx_of_mem hm
      rw [List.cons_append, show p.1.idx x = p.1.emb x from rfl, View.canon_cons_emb]
      rw [show p.1.idx x = p.1.emb x from rfl, View.canon_cons_emb] at h
      exact h
    · rw [List.cons_append, View.canon_cons_of_not_mem _ _ hm]
      rw [View.canon_cons_of_not_mem _ _ hm] at h
      refine ih h ?_
      obtain ⟨q, hq, hyq⟩ := hc
      rcases List.mem_cons.mp hq with rfl | hq'
      · exact absurd hyq hm
      · exact ⟨q, hq', hyq⟩

/-- A sum of products beside a term, at an index given by its coordinates. -/
theorem sum_at (p : S2048x3072.Idx → EReal) (f : Fin 2048 → Fin 768 → EReal) (w : FVec Ideal S768x3072 .fp8e4m3) (y : S2048x3072.Idx)
    (x : Fin 3072) {n : ℕ} (hr : ((y 0 : Fin 2048) : ℕ) = n) (h1 : ((y 1 : Fin 3072) : ℕ) = x) :
    p (ix2 ⟨n, hr ▸ (y 0).isLt⟩ x) + ∑ k, f ⟨n, hr ▸ (y 0).isLt⟩ k * w (ix2 k x) = p y + ∑ k, f (y 0) k * w (ix2 k (y 1)) := by
  subst hr
  obtain rfl : x = y 1 := Fin.ext h1.symm
  exact congrArg (p · + _) (by blk_ext)

set_option maxHeartbeats 4000000 in
/-- A later point adds to the product what its own block of codes contributes. -/
theorem partB (c : Dev nD) (t : Fin cfg0.N) (h : ¬ t.val % 167 = 0) (y : S2048x3072.Idx) :
    (outsAt0 m c t.val t.isLt).2 y = (outsAt0 m c (t.val - 1) (by omega)).2 y
      + ∑ k : Fin 768, KB (BitVec.ofNat 32 (grid0.coords t 0)) (iblk m c 0 t) (iblk m c 2 t) (iblk m c 3 t) (iblk m c 4 t) (iblk m c 5 t) (iblk m c 6 t) (y 0) k * iblk m c 1 t (ix2 k (y 1)) := by
  have hL : (outsAt0 m c t.val t.isLt).1 = fun y => KB (BitVec.ofNat 32 (grid0.coords t 0)) (iblk m c 0 t) (iblk m c 2 t) (iblk m c 3 t) (iblk m c 4 t) (iblk m c 5 t) (iblk m c 6 t) (y 0) (y 1) := funext fun y => blockB m c t h y
  rw [outsAt0_B m c t h] at hL ⊢
  frame_out at hL
  generalize hG : (fun y : S2048x768.Idx => KB (BitVec.ofNat 32 (grid0.coords t 0)) (iblk m c 0 t) (iblk m c 2 t) (iblk m c 3 t) (iblk m c 4 t) (iblk m c 5 t) (iblk m c 6 t) (y 0) (y 1)) = G at hL
  frame_out
  canon_tiles x h
  case piece3 =>
    have hR := View.readCov_eq_canon' (ms0_7 t).view _ (Rect.unit (s := S2048x768) ![0,0] ![512,768] (by decide)).toLoadRect |>.trans (by rw [hL])
    try simp (disch := decide) only [View.readCov_skip] at hR
    simp only [hR]
    open_payloads; pointwise [k0_pay1]
    subst hG
    exact sum_at (outsAt0 m c (t.val - 1) (by omega)).2 (KB (BitVec.ofNat 32 (grid0.coords t 0)) (iblk m c 0 t) (iblk m c 2 t) (iblk m c 3 t) (iblk m c 4 t) (iblk m c 5 t) (iblk m c 6 t)) (iblk m c 1 t) y (x 1) h0 h1
  case piece2 =>
    have hR := View.readCov_eq_canon' (ms0_7 t).view _ (Rect.unit (s := S2048x768) ![512,0] ![512,768] (by decide)).toLoadRect |>.trans (by rw [hL])
    try simp (disch := decide) only [View.readCov_skip] at hR
    simp only [hR]
    open_payloads; pointwise [k0_pay1]
    subst hG
    exact sum_at (outsAt0 m c (t.val - 1) (by omega)).2 (KB (BitVec.ofNat 32 (grid0.coords t 0)) (iblk m c 0 t) (iblk m c 2 t) (iblk m c 3 t) (iblk m c 4 t) (iblk m c 5 t) (iblk m c 6 t)) (iblk m c 1 t) y (x 1) h0 h1
  case piece1 =>
    have hR := View.readCov_eq_canon' (ms0_7 t).view _ (Rect.unit (s := S2048x768) ![1024,0] ![512,768] (by decide)).toLoadRect |>.trans (by rw [hL])
    try simp (disch := decide) only [View.readCov_skip] at hR
    simp only [hR]
    open_payloads; pointwise [k0_pay1]
    subst hG
    exact sum_at (outsAt0 m c (t.val - 1) (by omega)).2 (KB (BitVec.ofNat 32 (grid0.coords t 0)) (iblk m c 0 t) (iblk m c 2 t) (iblk m c 3 t) (iblk m c 4 t) (iblk m c 5 t) (iblk m c 6 t)) (iblk m c 1 t) y (x 1) h0 h1
  case piece0 =>
    have hR := View.readCov_eq_canon' (ms0_7 t).view _ (Rect.unit (s := S2048x768) ![1536,0] ![512,768] (by decide)).toLoadRect |>.trans (by rw [hL])
    try simp (disch := decide) only [View.readCov_skip] at hR
    simp only [hR]
    open_payloads; pointwise [k0_pay1]
    subst hG
    exact sum_at (outsAt0 m c (t.val - 1) (by omega)).2 (KB (BitVec.ofNat 32 (grid0.coords t 0)) (iblk m c 0 t) (iblk m c 2 t) (iblk m c 3 t) (iblk m c 4 t) (iblk m c 5 t) (iblk m c 6 t)) (iblk m c 1 t) y (x 1) h0 h1

set_option maxHeartbeats 4000000 in
/-- The first point leaves of the product what its own block of codes contributes. -/
theorem partA (c : Dev nD) (t : Fin cfg0.N) (h : t.val % 167 = 0) (y : S2048x3072.Idx) :
    (outsAt0 m c t.val t.isLt).2 y = 0 + ∑ k : Fin 768, KB (BitVec.ofNat 32 (grid0.coords t 0)) (iblk m c 0 t) (iblk m c 2 t) (iblk m c 3 t) (iblk m c 4 t) (iblk m c 5 t) (iblk m c 6 t) (y 0) k * iblk m c 1 t (ix2 k (y 1)) := by
  have hL : (outsAt0 m c t.val t.isLt).1 = fun y => KB (BitVec.ofNat 32 (grid0.coords t 0)) (iblk m c 0 t) (iblk m c 2 t) (iblk m c 3 t) (iblk m c 4 t) (iblk m c 5 t) (iblk m c 6 t) (y 0) (y 1) := funext fun y => blockA m c t h y
  rw [outsAt0_A m c t h] at hL ⊢
  frame_out at hL
  generalize hG : (fun y : S2048x768.Idx => KB (BitVec.ofNat 32 (grid0.coords t 0)) (iblk m c 0 t) (iblk m c 2 t) (iblk m c 3 t) (iblk m c 4 t) (iblk m c 5 t) (iblk m c 6 t) (y 0) (y 1)) = G at hL
  frame_open
  simp (disch := decide) only [↓View.readCov_skip, ↓View.readCov_fill]
  frame_out
  refine canon_keep [_, _, _, _] [_] y _ ?_ (View.cover_of_tiled_head _ _ _ (by rfl) _)
  canon_tiles x h
  case piece3 =>
    have hR := View.readCov_eq_canon' (ms0_7 t).view _ (Rect.unit (s := S2048x768) ![0,0] ![512,768] (by decide)).toLoadRect |>.trans (by rw [hL])
    try simp (disch := decide) only [View.readCov_skip] at hR
    simp only [hR]
    open_payloads; pointwise [k0_pay1]
    subst hG
    exact (zero_add _).symm.trans ((sum_at (fun _ => 0) (KB (BitVec.ofNat 32 (grid0.coords t 0)) (iblk m c 0 t) (iblk m c 2 t) (iblk m c 3 t) (iblk m c 4 t) (iblk m c 5 t) (iblk m c 6 t)) (iblk m c 1 t) y (x 1) h0 h1).trans (zero_add _))
  case piece2 =>
    have hR := View.readCov_eq_canon' (ms0_7 t).view _ (Rect.unit (s := S2048x768) ![512,0] ![512,768] (by decide)).toLoadRect |>.trans (by rw [hL])
    try simp (disch := decide) only [View.readCov_skip] at hR
    simp only [hR]
    open_payloads; pointwise [k0_pay1]
    subst hG
    exact (zero_add _).symm.trans ((sum_at (fun _ => 0) (KB (BitVec.ofNat 32 (grid0.coords t 0)) (iblk m c 0 t) (iblk m c 2 t) (iblk m c 3 t) (iblk m c 4 t) (iblk m c 5 t) (iblk m c 6 t)) (iblk m c 1 t) y (x 1) h0 h1).trans (zero_add _))
  case piece1 =>
    have hR := View.readCov_eq_canon' (ms0_7 t).view _ (Rect.unit (s := S2048x768) ![1024,0] ![512,768] (by decide)).toLoadRect |>.trans (by rw [hL])
    try simp (disch := decide) only [View.readCov_skip] at hR
    simp only [hR]
    open_payloads; pointwise [k0_pay1]
    subst hG
    exact (zero_add _).symm.trans ((sum_at (fun _ => 0) (KB (BitVec.ofNat 32 (grid0.coords t 0)) (iblk m c 0 t) (iblk m c 2 t) (iblk m c 3 t) (iblk m c 4 t) (iblk m c 5 t) (iblk m c 6 t)) (iblk m c 1 t) y (x 1) h0 h1).trans (zero_add _))
  case piece0 =>
    have hR := View.readCov_eq_canon' (ms0_7 t).view _ (Rect.unit (s := S2048x768) ![1536,0] ![512,768] (by decide)).toLoadRect |>.trans (by rw [hL])
    try simp (disch := decide) only [View.readCov_skip] at hR
    simp only [hR]
    open_payloads; pointwise [k0_pay1]
    subst hG
    exact (zero_add _).symm.trans ((sum_at (fun _ => 0) (KB (BitVec.ofNat 32 (grid0.coords t 0)) (iblk m c 0 t) (iblk m c 2 t) (iblk m c 3 t) (iblk m c 4 t) (iblk m c 5 t) (iblk m c 6 t)) (iblk m c 1 t) y (x 1) h0 h1).trans (zero_add _))

end Cert.GradIdeal.Val

end
-- ==== Proof.GradSpec.lean ====
/- The gradient of one logit as the reference states it, in scaled and clipped codes. -/
module

public import Idealize.ShloMosaic.Init
public import Idealize.ShloMosaic.Lib.Pipeline.ValueKit
public import Idealize.ShloMosaic.Lib.Pointwise
public import Idealize.ShloMosaic.Lib.Claim

@[expose] public section

set_option maxRecDepth 16384

noncomputable section

namespace Cert.GradSpec

open Idealize.ShloMosaic Idealize.ShloMosaic.TcCoe

/-- One code: the logit's gradient `coef * (onehot - p / den) / T`, times the column's scale, over the row's scale, clipped. -/
def code (z mx den coef gs s : EReal) (lab : BitVec 32) (v : ℕ) : EReal :=
  min (Ideal.ofBits FTy.f32 1197473792#32) (max (Ideal.ofBits FTy.f32 3344957440#32)
    (Ideal.div (Ideal.div (coef * (FloatOps.sitofp (F := Ideal) FTy.f32 (BitVec.setWidth 32 (IntOp.cmpi CmpIPredicate.eq (BitVec.ofNat 32 v) lab))
        - Ideal.div (FloatOps.exp2 (F := Ideal) (φ := .f32) (z - mx)) den)) (Ideal.ofBits FTy.f32 1061997773#32) * s) gs))

/-- The code of row `r` and column `v`, from the argument arrays. -/
def CODE (Z : FVec Ideal ⟨2, ![2048, 128256]⟩ .f32) (S : FVec Ideal ⟨1, ![128256]⟩ .f32) (M DEN COEF GS : FVec Ideal ⟨1, ![2048]⟩ .f32)
    (LAB : IVec ⟨1, ![2048]⟩ 32) (r : Fin 2048) (v : Fin 128256) : EReal :=
  code (Z (ix2 r v)) (M (ix1 r)) (DEN (ix1 r)) (COEF (ix1 r)) (GS (ix1 r)) (S (ix1 v)) (LAB (ix1 r)) v

/-- All codes. -/
def CODES (Z : FVec Ideal ⟨2, ![2048, 128256]⟩ .f32) (S : FVec Ideal ⟨1, ![128256]⟩ .f32) (M DEN COEF GS : FVec Ideal ⟨1, ![2048]⟩ .f32)
    (LAB : IVec ⟨1, ![2048]⟩ 32) : FVec Ideal ⟨2, ![2048, 128256]⟩ .fp8e5m2 := fun y => CODE Z S M DEN COEF GS LAB (y 0) (y 1)

/-- The codes times the weights. -/
def PROD (Z : FVec Ideal ⟨2, ![2048, 128256]⟩ .f32) (W : FVec Ideal ⟨2, ![128256, 3072]⟩ .fp8e4m3) (S : FVec Ideal ⟨1, ![128256]⟩ .f32)
    (M DEN COEF GS : FVec Ideal ⟨1, ![2048]⟩ .f32) (LAB : IVec ⟨1, ![2048]⟩ 32) : FVec Ideal ⟨2, ![2048, 3072]⟩ .f32 :=
  fun y => ∑ v : Fin 128256, CODE Z S M DEN COEF GS LAB (y 0) v * W (ix2 v (y 1))

end Cert.GradSpec

end
-- ==== Proof.GradReads.lean ====
/- The blocks of the operands of the gradient kernel, element by element. -/
module

public import proofs.«01_k».proof.Proof.GradProd
public import proofs.«01_k».proof.Proof.GradSpec
public import Idealize.ShloMosaic.Lib.Pipeline.ValueKit
public import Idealize.ShloMosaic.Lib.Pointwise
public import Idealize.ShloMosaic.Lib.Claim

@[expose] public section

set_option maxRecDepth 16384

noncomputable section

namespace Cert.GradIdeal.Val

open Cert.GradIdeal Cert.GradIdeal.Gen Idealize.ShloMosaic Idealize.ShloMosaic.TcCoe Idealize.SL.Sem
open Idealize.ShloMosaic.Pipeline (Dat)
open Cert.GradSpec

variable (m : (ℓ : Loc nD τ sig) → Buf (Elt Ideal) ℓ)

/-- The block index of every window at every grid point. -/
theorem idx : ∀ t : Fin cfg0.N, win0_0.index t = ![0, t.val] ∧ win0_1.index t = ![t.val, 0]
    ∧ win0_2.index t = ![0, t.val] ∧ win0_3.index t = ![0, 0] ∧ win0_4.index t = ![0, 0] ∧ win0_5.index t = ![0, 0]
    ∧ win0_6.index t = ![0, 0] ∧ win0_7.index t = ![0, t.val] ∧ win0_8.index t = ![0, 0] :=
  (by decide +kernel : ∀ t : Fin grid0.N, _)

/-- The grid's one coordinate is the point's number. -/
theorem coord : ∀ t : Fin cfg0.N, ((grid0.coords t 0 : Fin _) : ℕ) = t.val := (by decide +kernel : ∀ t : Fin grid0.N, _)

theorem col_lt (t : Fin cfg0.N) (v : Fin 768) : t.val * 768 + v < 128256 := by
  have := t.isLt
  simp only [show cfg0.N = 167 from by decide +kernel] at this
  omega

/-- The blocks of the operands, element by element, from the argument arrays. -/
theorem reads (c : Dev nD) (t : Fin cfg0.N) (r : Fin 2048) (v : Fin 768) (l : Fin 128) (d : Fin 3072) :
    iblk m c 0 t (ix2 r v) = (m ((c : Thread nD τ).loc main_arg0)) (ix2 r ⟨t.val * 768 + v, col_lt t v⟩)
    ∧ iblk m c 1 t (ix2 v d) = (m ((c : Thread nD τ).loc main_arg1)) (ix2 ⟨t.val * 768 + v, col_lt t v⟩ d)
    ∧ iblk m c 2 t (ix2 0 v) = (m ((c : Thread nD τ).loc main_arg2)) (ix1 ⟨t.val * 768 + v, col_lt t v⟩)
    ∧ iblk m c 3 t (ix2 r l) = (m ((c : Thread nD τ).loc main_arg3)) (ix1 r)
    ∧ iblk m c 4 t (ix2 r l) = -(Ideal.div (Ideal.div (Ideal.div ((m ((c : Thread nD τ).loc main_arg5)) (ix1 r)) (Ideal.ofBits .f32 1061997773#32)) ((m ((c : Thread nD τ).loc main_arg6)) (ix1 r))) ((m ((c : Thread nD τ).loc main_arg4)) (ix1 r)))
    ∧ iblk m c 5 t (ix2 r l) = Ideal.div (Ideal.div ((m ((c : Thread nD τ).loc main_arg5)) (ix1 r)) (Ideal.ofBits .f32 1061997773#32)) ((m ((c : Thread nD τ).loc main_arg6)) (ix1 r))
    ∧ iblk m c 6 t (ix2 r l) = (m ((c : Thread nD τ).loc main_arg7)) (ix1 r) := by
  refine ⟨?_, ?_, ?_, ?_, ?_, ?_, ?_⟩
  · blk_point [iblk, V, idx t]
  · blk_point [iblk, V, idx t]
  · blk_point [iblk, V, idx t]
  · blk_point [iblk, V, idx t]
  · have he : (win0_4.blk t).view.emb (ix2 r l) 0 = r :=
      Fin.ext ((Pipeline.Window.rect_emb_val win0_4 t (ix2 r l) 0 rfl).trans (by rw [(idx t).2.2.2.2.1]; simp))
    blk_simp [iblk]; entry_read; pointwise; rw [he]
  · have he : (win0_5.blk t).view.emb (ix2 r l) 0 = r :=
      Fin.ext ((Pipeline.Window.rect_emb_val win0_5 t (ix2 r l) 0 rfl).trans (by rw [(idx t).2.2.2.2.2.1]; simp))
    blk_simp [iblk]; entry_read; pointwise; rw [he]
  · blk_point [iblk, V, idx t]

end Cert.GradIdeal.Val

end
-- ==== Proof.GradMath.lean ====
/- The arithmetic between one code as the kernel computes it and as the reference states it. -/
module

public import proofs.«01_k».proof.Proof.GradSpec
public import Idealize.ShloMosaic.Lib.Pipeline.ValueKit
public import Idealize.ShloMosaic.Lib.Pointwise
public import Idealize.ShloMosaic.Lib.Claim

@[expose] public section

set_option maxRecDepth 16384

noncomputable section

namespace Cert.GradSpec

open Idealize.ShloMosaic Idealize.ShloMosaic.TcCoe

/-- A difference times a real number, whatever is subtracted. -/
theorem sub_mul_coe (h r : ℝ) (p : EReal) : ((h : EReal) - p) * r = p * (-(r : EReal)) + h * r := by
  induction p with
  | coe p => rw [← EReal.coe_sub, ← EReal.coe_neg]; norm_cast; ring
  | top =>
    rw [← EReal.coe_neg, show (h : EReal) - ⊤ = ⊥ from rfl, ← EReal.coe_mul]
    rcases lt_trichotomy r 0 with hr | rfl | hr
    · rw [EReal.bot_mul_coe_of_neg hr, EReal.top_mul_coe_of_pos (by linarith), EReal.top_add_coe]
    · simp
    · rw [EReal.bot_mul_coe_of_pos hr, EReal.top_mul_coe_of_neg (by linarith), EReal.bot_add]
  | bot =>
    rw [← EReal.coe_neg, show (h : EReal) - ⊥ = ⊤ from rfl, ← EReal.coe_mul]
    rcases lt_trichotomy r 0 with hr | rfl | hr
    · rw [EReal.top_mul_coe_of_neg hr, EReal.bot_mul_coe_of_pos (by linarith), EReal.bot_add]
    · simp
    · rw [EReal.top_mul_coe_of_pos hr, EReal.bot_mul_coe_of_neg (by linarith), EReal.top_add_coe]

/-- The inverse of an extended real is a real number. -/
theorem inv_real (x : EReal) : ∃ r : ℝ, x⁻¹ = r := by
  induction x with
  | coe x => exact ⟨x⁻¹, (EReal.coe_inv x).symm⟩
  | top => exact ⟨0, by simp⟩
  | bot => exact ⟨0, by simp⟩

/-- Division by a number that is not zero. -/
theorem div_ne (x : EReal) {y : EReal} (hy : y ≠ 0) : Ideal.div x y = x * y⁻¹ := by
  unfold Ideal.div; rw [if_neg hy]

/-- The temperature is not zero. -/
theorem temp_ne : Ideal.ofBits FTy.f32 1061997773#32 ≠ 0 := by
  simp [Ideal.ofBits, Ideal.ieee, ← EReal.coe_mul]

/-- The word test of the kernel is the reference's: column `v` of chunk `t` is the label. -/
theorem hit_iff (lab : BitVec 32) (t v l : ℕ) (hl : l ≤ v) :
    IntOp.subi (IntOp.subi lab (Scalar.muli (BitVec.ofNat 32 t) 768#32)) (BitVec.ofNat 32 l) = BitVec.ofNat 32 (v - l)
      ↔ BitVec.ofNat 32 (t * 768 + v) = lab := by
  have e : BitVec.ofNat 32 (v - l) = BitVec.ofNat 32 v - BitVec.ofNat 32 l := by
    conv_rhs => rw [show v = (v - l) + l by omega, BitVec.ofNat_add]
    rw [BitVec.add_sub_cancel]
  show lab - BitVec.ofNat 32 t * 768#32 - BitVec.ofNat 32 l = _ ↔ _
  rw [e, BitVec.ofNat_add, BitVec.ofNat_mul]
  generalize BitVec.ofNat 32 t * 768#32 = a
  show lab - a - _ = _ ↔ a + _ = lab
  generalize BitVec.ofNat 32 v = b
  generalize BitVec.ofNat 32 l = d
  constructor
  · intro h
    have h' := congrArg (fun x => x + d + a) h
    simp only [BitVec.sub_add_cancel] at h'
    rw [h', BitVec.add_comm]
  · rintro rfl
    rw [BitVec.add_comm a b, BitVec.add_sub_cancel]

/-- The gradient over the row's scale, as one product with a coefficient of the row. -/
theorem grad_eq (p den coef gs s T : EReal) (h : ℝ) (hT : T ≠ 0) (hc : coef ≠ ⊤) (hc' : coef ≠ ⊥) (hd : den ≠ 0) (hg : gs ≠ 0) :
    Ideal.div (Ideal.div (coef * ((h : EReal) - Ideal.div p den)) T * s) gs
      = (p * -(Ideal.div (Ideal.div (Ideal.div coef T) gs) den) + h * Ideal.div (Ideal.div coef T) gs) * s := by
  rw [div_ne _ hd, div_ne _ hd, div_ne _ hg, div_ne _ hg, div_ne _ hT, div_ne _ hT]
  obtain ⟨c, rfl⟩ : ∃ c : ℝ, coef = c := ⟨coef.toReal, (EReal.coe_toReal hc hc').symm⟩
  obtain ⟨τ, hτ⟩ := inv_real T
  obtain ⟨g, hg⟩ := inv_real gs
  obtain ⟨d, hd⟩ := inv_real den
  rw [hτ, hg, hd]
  have key := sub_mul_coe h (c * τ * g) (p * (d : EReal))
  have e1 : (p * -((c : EReal) * τ * g * d)) = p * (d : EReal) * (-(((c * τ * g : ℝ)) : EReal)) := by
    rw [mul_neg, mul_neg, EReal.coe_mul, EReal.coe_mul]; congr 1; ac_rfl
  rw [e1, ← EReal.coe_mul, ← EReal.coe_mul, ← key, EReal.coe_mul, EReal.coe_mul]
  ac_rfl

/-- The bit of a test as a number. -/
theorem bit_one : FloatOps.sitofp (F := Ideal) FTy.f32 (BitVec.setWidth 32 1#1) = ((1 : ℝ) : EReal) := by
  show (((BitVec.setWidth 32 1#1).toInt : ℝ) : EReal) = _
  norm_num

theorem bit_zero : FloatOps.sitofp (F := Ideal) FTy.f32 (BitVec.setWidth 32 0#1) = ((0 : ℝ) : EReal) := by
  show (((BitVec.setWidth 32 0#1).toInt : ℝ) : EReal) = _
  norm_num

/-- One code as the kernel computes it is the code of the reference. -/
theorem code_eq (z mx den coef gs s : EReal) (lab : BitVec 32) (t v l : ℕ) (hl : l ≤ v)
    (hc : coef ≠ ⊤) (hc' : coef ≠ ⊥) (hd : den ≠ 0) (hg : gs ≠ 0) :
    min (Ideal.ofBits FTy.f32 1197473792#32) (max (Ideal.ofBits FTy.f32 3344957440#32)
      (Scalar.select
          (IntOp.cmpi CmpIPredicate.eq
            (IntOp.subi (IntOp.subi lab (Scalar.muli (BitVec.ofNat 32 t) 768#32)) (BitVec.ofNat 32 l)) (BitVec.ofNat 32 (v - l)))
          (FloatOps.exp2 (F := Ideal) (φ := .f32) (z - mx) * -(Ideal.div (Ideal.div (Ideal.div coef (Ideal.ofBits .f32 1061997773#32)) gs) den)
            + Ideal.div (Ideal.div coef (Ideal.ofBits .f32 1061997773#32)) gs)
          (FloatOps.exp2 (F := Ideal) (φ := .f32) (z - mx) * -(Ideal.div (Ideal.div (Ideal.div coef (Ideal.ofBits .f32 1061997773#32)) gs) den))
        * s))
      = code z mx den coef gs s lab (t * 768 + v) := by
  unfold code
  by_cases h : BitVec.ofNat 32 (t * 768 + v) = lab
  · rw [show IntOp.cmpi CmpIPredicate.eq (BitVec.ofNat 32 (t * 768 + v)) lab = 1#1 by simp [IntOp.cmpi, h],
      show IntOp.cmpi CmpIPredicate.eq (IntOp.subi (IntOp.subi lab (Scalar.muli (BitVec.ofNat 32 t) 768#32)) (BitVec.ofNat 32 l)) (BitVec.ofNat 32 (v - l)) = 1#1 by
        rw [(hit_iff lab t v l hl).mpr h]; simp [IntOp.cmpi], bit_one, grad_eq _ _ _ _ _ _ 1 temp_ne hc hc' hd hg, EReal.coe_one, one_mul]
    rfl
  · rw [show IntOp.cmpi CmpIPredicate.eq (BitVec.ofNat 32 (t * 768 + v)) lab = 0#1 by show BitVec.ofBool (_ == _) = _; rw [beq_eq_false_iff_ne.mpr h]; rfl,
      show IntOp.cmpi CmpIPredicate.eq (IntOp.subi (IntOp.subi lab (Scalar.muli (BitVec.ofNat 32 t) 768#32)) (BitVec.ofNat 32 l)) (BitVec.ofNat 32 (v - l)) = 0#1 by
        show BitVec.ofBool (_ == _) = _; rw [beq_eq_false_iff_ne.mpr ((hit_iff lab t v l hl).not.mpr h)]; rfl, bit_zero, grad_eq _ _ _ _ _ _ 0 temp_ne hc hc' hd hg, EReal.coe_zero, zero_mul, add_zero]
    rfl

end Cert.GradSpec

end
-- ==== Proof.GradValue.lean ====
/- The two arrays the gradient kernel leaves are the reference's. -/
module

public import proofs.«01_k».proof.Proof.GradReads
public import proofs.«01_k».proof.Proof.GradMath
public import proofs.«01_k».proof.Pre_grad_defined
public import Idealize.ShloMosaic.Lib.Pipeline.ValueKit
public import Idealize.ShloMosaic.Lib.Pointwise
public import Idealize.ShloMosaic.Lib.Claim

@[expose] public section

set_option maxRecDepth 16384

noncomputable section

namespace Cert.GradSpec

open Idealize.ShloMosaic Idealize.ShloMosaic.TcCoe

/-- Every row's coefficient is a number, and neither its denominator nor its scale is zero. -/
def Defined (DEN COEF GS : FVec Ideal ⟨1, ![2048]⟩ .f32) : Prop :=
  ∀ r : Fin 2048, COEF (ix1 r) ≠ ⊤ ∧ COEF (ix1 r) ≠ ⊥ ∧ DEN (ix1 r) ≠ 0 ∧ GS (ix1 r) ≠ 0

theorem and_one {a b : BitVec 1} (h : a &&& b = 1#1) : a = 1#1 ∧ b = 1#1 := by
  revert a b; decide

theorem not_zero_of_une {x : EReal} (h : Ideal.cmp .une x (Ideal.ofBits .f32 0x00000000#32) = 1#1) : x ≠ 0 := by
  rintro rfl
  simp [Ideal.cmp, Ideal.ofBits, Ideal.ieee] at h

/-- The precondition, row by row. -/
theorem defined_of_pre [Cert.Pre_grad_defined.Facts] (Z : FVec Ideal ⟨2, ![2048, 128256]⟩ .f32) (W : FVec Ideal ⟨2, ![128256, 3072]⟩ .fp8e4m3) (S : FVec Ideal ⟨1, ![128256]⟩ .f32)
    (M DEN COEF GS : FVec Ideal ⟨1, ![2048]⟩ .f32) (LAB : IVec ⟨1, ![2048]⟩ 32)
    (h : Cert.Pre_grad_defined.fn Z W S M DEN COEF GS LAB = fun _ => 1#1) : Defined DEN COEF GS := by
  intro r
  have h := congrFun h (ix1 r)
  obtain ⟨h, h3⟩ := and_one h
  obtain ⟨h1, h2⟩ := and_one h
  have h1 : Ideal.cmp .olt (FloatOps.absf (F := Ideal) (φ := .f32) (COEF (ix1 r))) (Ideal.ofBits .f32 0x7F800000#32) = 1#1 := h1
  have h2 : Ideal.cmp .une (DEN (ix1 r)) (Ideal.ofBits .f32 0x00000000#32) = 1#1 := h2
  have h3 : Ideal.cmp .une (GS (ix1 r)) (Ideal.ofBits .f32 0x00000000#32) = 1#1 := h3
  rw [show Ideal.ofBits .f32 0x7F800000#32 = ⊤ by simp [Ideal.ofBits, Ideal.ieee]] at h1
  refine ⟨fun e => ?_, fun e => ?_, not_zero_of_une h2, not_zero_of_une h3⟩
  · rw [e] at h1; revert h1; simp [Ideal.cmp, FloatOps.absf]
  · rw [e] at h1; revert h1; simp [Ideal.cmp, FloatOps.absf]

end Cert.GradSpec

namespace Cert.GradIdeal.Val

open Cert.GradIdeal Cert.GradIdeal.Gen Idealize.ShloMosaic Idealize.ShloMosaic.TcCoe Idealize.SL.Sem
open Idealize.ShloMosaic.Pipeline (Dat)
open Cert.GradSpec

variable (m : (ℓ : Loc nD τ sig) → Buf (Elt Ideal) ℓ)

/-- One element of a block of codes is the reference's code at the block's column. -/
theorem kb_code (c : Dev nD) (hp : Defined (m ((c : Thread nD τ).loc main_arg4)) (m ((c : Thread nD τ).loc main_arg5)) (m ((c : Thread nD τ).loc main_arg6))) (t : Fin cfg0.N) (r : Fin 2048) (v : Fin 768) :
    KB (BitVec.ofNat 32 (grid0.coords t 0)) (iblk m c 0 t) (iblk m c 2 t) (iblk m c 3 t) (iblk m c 4 t) (iblk m c 5 t) (iblk m c 6 t) r v = CODE (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r ⟨t.val * 768 + v, col_lt t v⟩ := by
  obtain ⟨h0, _, h2, h3, h4, h5, h6⟩ := reads m c t r v ⟨v % 128, Nat.mod_lt _ (by decide)⟩ 0
  unfold KB KF CODE
  rw [h0, h2, h3, h4, h5, h6, coord t]
  obtain ⟨p1, p2, p3, p4⟩ := hp r
  exact code_eq _ _ _ _ _ _ _ t.val v (v % 128) (Nat.mod_le _ _) p1 p2 p3 p4

/-- The block of codes a point leaves, in terms of the arguments. -/
theorem block (c : Dev nD) (hp : Defined (m ((c : Thread nD τ).loc main_arg4)) (m ((c : Thread nD τ).loc main_arg5)) (m ((c : Thread nD τ).loc main_arg6))) (t : Fin cfg0.N) (y : S2048x768.Idx) :
    (outsAt0 m c t.val t.isLt).1 y = CODE (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (y 0) ⟨t.val * 768 + (y 1 : Fin 768), col_lt t (y 1)⟩ := by
  rw [← kb_code m c hp t (y 0) (y 1)]
  by_cases h : t.val % 167 = 0
  · exact blockA m c t h y
  · exact blockB m c t h y

/-- The kernel's codes are the reference's. -/
theorem final7 (c : Dev nD) (hp : Defined (m ((c : Thread nD τ).loc main_arg4)) (m ((c : Thread nD τ).loc main_arg5)) (m ((c : Thread nD τ).loc main_arg6))) : (dats m 0 c).arrAt 7 cfg0.N = CODES (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 7 _ (by decide +kernel) fun t hf y => ?_
  blk_simp
  rw [after0_7]
  refine (block m c hp t y).trans (congrArg₂ (CODE (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Fin.ext ?_) (Fin.ext ?_))
  · exact ((Pipeline.Window.rect_emb_val win0_7 t y 0 rfl).trans (by rw [(idx t).2.2.2.2.2.2.2.1]; simp)).symm
  · exact ((Pipeline.Window.rect_emb_val win0_7 t y 1 rfl).trans (by rw [(idx t).2.2.2.2.2.2.2.1]; rfl)).symm

/-- One product of the point `s`, in terms of the arguments. -/
theorem term_eq (c : Dev nD) (hp : Defined (m ((c : Thread nD τ).loc main_arg4)) (m ((c : Thread nD τ).loc main_arg5)) (m ((c : Thread nD τ).loc main_arg6))) (t : Fin cfg0.N) (s : ℕ) (e : t.val = s) (r : Fin 2048) (k : Fin 768) (d : Fin 3072) (hl : s * 768 + k < 128256) :
    KB (BitVec.ofNat 32 (grid0.coords t 0)) (iblk m c 0 t) (iblk m c 2 t) (iblk m c 3 t) (iblk m c 4 t) (iblk m c 5 t) (iblk m c 6 t) r k * iblk m c 1 t (ix2 k d)
      = CODE (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r ⟨s * 768 + k, hl⟩ * (m ((c : Thread nD τ).loc main_arg1)) (ix2 ⟨s * 768 + k, hl⟩ d) := by
  subst e
  rw [kb_code m c hp, (reads m c t r k 0 d).2.1]

/-- What a point adds to the product. -/
def part (c : Dev nD) (t : Fin cfg0.N) (y : S2048x3072.Idx) : EReal :=
  ∑ k : Fin 768, KB (BitVec.ofNat 32 (grid0.coords t 0)) (iblk m c 0 t) (iblk m c 2 t) (iblk m c 3 t) (iblk m c 4 t) (iblk m c 5 t) (iblk m c 6 t) (y 0) k * iblk m c 1 t (ix2 k (y 1))

/-- The kernel's product is the reference's. -/
theorem final8 (c : Dev nD) (hp : Defined (m ((c : Thread nD τ).loc main_arg4)) (m ((c : Thread nD τ).loc main_arg5)) (m ((c : Thread nD τ).loc main_arg6))) : (dats m 0 c).arrAt 8 cfg0.N = PROD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  rw [Pipeline.eq_sum_fin_of_reset_step_apply_of_flush (fun n h => (outsAt0 m c n h).2) 167 (fun _ => 0) (part m c)
    (fun t h y => partA m c t h y) (fun t h y => partB m c t h y) t ((flush0_8 t).mp hf) y, zero_add]
  have hy0 : (win0_8.blk t).view.emb y 0 = y 0 :=
    Fin.ext ((Pipeline.Window.rect_emb_val win0_8 t y 0 rfl).trans (by rw [(idx t).2.2.2.2.2.2.2.2]; simp))
  have hy1 : (win0_8.blk t).view.emb y 1 = y 1 :=
    Fin.ext ((Pipeline.Window.rect_emb_val win0_8 t y 1 rfl).trans (by rw [(idx t).2.2.2.2.2.2.2.2]; simp))
  have ht : t.val / 167 = 0 := Nat.div_eq_of_lt t.isLt
  unfold PROD part
  simp only [hy0, hy1]
  refine Fin.sum_mul_add_congr fun s k hl => ?_
  have es : (⟨167 * (t.val / 167) + s.val, Pipeline.run_point_lt_of_flush t ((flush0_8 t).mp hf) s⟩ : Fin cfg0.N).val = s.val := by
    show 167 * (t.val / 167) + s.val = s.val
    rw [ht, Nat.mul_zero, Nat.zero_add]
  exact term_eq m c hp _ s.val es (y 0) k (y 1) hl

end Cert.GradIdeal.Val

end
-- ==== Proof.GradRefValue.lean ====
/- The two arrays the reference of the gradient leaves. -/
module

public import proofs.«01_k».proof.Proof.Gen.GradRefIdeal.Value
public import proofs.«01_k».proof.Proof.GradSpec
public import Idealize.ShloMosaic.Lib.Pipeline.ValueKit
public import Idealize.ShloMosaic.Lib.Pointwise
public import Idealize.ShloMosaic.Lib.Claim

@[expose] public section

set_option maxRecDepth 16384

noncomputable section

namespace Cert.GradRefIdeal.Val

open Cert.GradRefIdeal Cert.GradRefIdeal.Gen Idealize.ShloMosaic Idealize.ShloMosaic.TcCoe Idealize.SL.Sem
open Idealize.ShloMosaic.Pipeline (Dat)

open Cert.GradSpec

variable (m : (ℓ : Loc nD τ sig) → Buf (Elt Ideal) ℓ)

/-- The block index of every window. -/
theorem idx : ∀ t : Fin cfg0.N, win0_0.index t = ![0, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] :=
  (by decide +kernel : ∀ t : Fin grid0.N, _)

/-- The reference's codes. -/
theorem final8 (c : Dev nD) : (dats m 0 c).arrAt 8 cfg0.N = CODES (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  frame_out
  pointwise [k0_pay2, CODES, CODE, code]
  blk_point [iblk, V, idx t]

/-- The reference's product. -/
theorem final9 (c : Dev nD) : (dats m 0 c).arrAt 9 cfg0.N = PROD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp
  rw [after0_9]
  frame_out
  pointwise [k0_pay1, k0_pay2, PROD, CODE, code]
  blk_point [iblk, V, idx t]

end Cert.GradRefIdeal.Val

end
-- ==== Proof.StatsBlock.lean ====
/- The blocks of logits that one grid point leaves, and the six-chunk steps of the running statistics. -/
module

public import proofs.«01_k».proof.Proof.Gen.StatsIdeal.Frame
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

namespace Cert.StatsIdeal.Val

open Cert.StatsIdeal Cert.StatsIdeal.Gen Idealize.ShloMosaic Idealize.ShloMosaic.TcCoe Idealize.SL.Sem
open Idealize.ShloMosaic.Pipeline (Dat)

variable (m : (ℓ : Loc nD τ sig) → Buf (Elt Ideal) ℓ)

/-- One element of a block of logits: row `r`, column `v`, with the row's scale read in lane `l`. -/
def KZ (X : FVec Ideal S2048x3072 .fp8e4m3) (W : FVec Ideal S768x3072 .fp8e4m3) (s : FVec Ideal S1x768 .f32) (sx : FVec Ideal S2048x128 .f32)
    (r : Fin 2048) (v : Fin 768) (l : Fin 128) : EReal :=
  (∑ k : Fin 3072, X (ix2 r k) * W (ix2 v k)) * (s (ix2 0 v) * Ideal.ofBits FTy.f32 1072092362#32) * sx (ix2 r l)

/-- The running maximum after the six chunks of a block. -/
def KM (m z0 z1 z2 z3 z4 z5 : EReal) : EReal := max (max (max (max (max (max m z0) z1) z2) z3) z4) z5

/-- The running mass after the six chunks of a block. -/
def KL (l m z0 z1 z2 z3 z4 z5 : EReal) : EReal :=
  l * FloatOps.exp2 (F := Ideal) (φ := .f32) (m - KM m z0 z1 z2 z3 z4 z5) + FloatOps.exp2 (F := Ideal) (φ := .f32) (z0 - KM m z0 z1 z2 z3 z4 z5) + FloatOps.exp2 (F := Ideal) (φ := .f32) (z1 - KM m z0 z1 z2 z3 z4 z5) + FloatOps.exp2 (F := Ideal) (φ := .f32) (z2 - KM m z0 z1 z2 z3 z4 z5) + FloatOps.exp2 (F := Ideal) (φ := .f32) (z3 - KM m z0 z1 z2 z3 z4 z5) + FloatOps.exp2 (F := Ideal) (φ := .f32) (z4 - KM m z0 z1 z2 z3 z4 z5) + FloatOps.exp2 (F := Ideal) (φ := .f32) (z5 - KM m z0 z1 z2 z3 z4 z5)

/-- The running weighted mass after the six chunks of a block. -/
def KT (t m z0 z1 z2 z3 z4 z5 : EReal) : EReal :=
  t * FloatOps.exp2 (F := Ideal) (φ := .f32) (m - KM m z0 z1 z2 z3 z4 z5) + FloatOps.exp2 (F := Ideal) (φ := .f32) (z0 - KM m z0 z1 z2 z3 z4 z5) * z0 + FloatOps.exp2 (F := Ideal) (φ := .f32) (z1 - KM m z0 z1 z2 z3 z4 z5) * z1 + FloatOps.exp2 (F := Ideal) (φ := .f32) (z2 - KM m z0 z1 z2 z3 z4 z5) * z2 + FloatOps.exp2 (F := Ideal) (φ := .f32) (z3 - KM m z0 z1 z2 z3 z4 z5) * z3 + FloatOps.exp2 (F := Ideal) (φ := .f32) (z4 - KM m z0 z1 z2 z3 z4 z5) * z4 + FloatOps.exp2 (F := Ideal) (φ := .f32) (z5 - KM m z0 z1 z2 z3 z4 z5) * z5

/-- The picked logit after the six chunks of a block; `w` is the label's distance from the block's first column of the lane. -/
def KY (w : BitVec 32) (y z0 z1 z2 z3 z4 z5 : EReal) : EReal :=
  Scalar.select (IntOp.cmpi CmpIPredicate.eq w 640#32) z5 (Scalar.select (IntOp.cmpi CmpIPredicate.eq w 512#32) z4 (Scalar.select (IntOp.cmpi CmpIPredicate.eq w 384#32) z3 (Scalar.select (IntOp.cmpi CmpIPredicate.eq w 256#32) z2 (Scalar.select (IntOp.cmpi CmpIPredicate.eq w 128#32) z1 (Scalar.select (IntOp.cmpi CmpIPredicate.eq w 0#32) z0 (y))))))

/-- The running maximum of a row's lane from the block's operands. -/
def RM (m : S2048x128.Idx → EReal) (X : FVec Ideal S2048x3072 .fp8e4m3) (W : FVec Ideal S768x3072 .fp8e4m3) (s : FVec Ideal S1x768 .f32) (sx : FVec Ideal S2048x128 .f32) (r : Fin 2048) (l : Fin 128) : EReal :=
  KM (m (ix2 r l)) (KZ X W s sx r ⟨l, by omega⟩ l) (KZ X W s sx r ⟨128 + l, by omega⟩ l) (KZ X W s sx r ⟨256 + l, by omega⟩ l) (KZ X W s sx r ⟨384 + l, by omega⟩ l) (KZ X W s sx r ⟨512 + l, by omega⟩ l) (KZ X W s sx r ⟨640 + l, by omega⟩ l)

/-- The running mass of a row's lane from the block's operands. -/
def RL (o m : S2048x128.Idx → EReal) (X : FVec Ideal S2048x3072 .fp8e4m3) (W : FVec Ideal S768x3072 .fp8e4m3) (s : FVec Ideal S1x768 .f32) (sx : FVec Ideal S2048x128 .f32) (r : Fin 2048) (l : Fin 128) : EReal :=
  KL (o (ix2 r l)) (m (ix2 r l)) (KZ X W s sx r ⟨l, by omega⟩ l) (KZ X W s sx r ⟨128 + l, by omega⟩ l) (KZ X W s sx r ⟨256 + l, by omega⟩ l) (KZ X W s sx r ⟨384 + l, by omega⟩ l) (KZ X W s sx r ⟨512 + l, by omega⟩ l) (KZ X W s sx r ⟨640 + l, by omega⟩ l)

/-- The running weighted mass of a row's lane from the block's operands. -/
def RT (o m : S2048x128.Idx → EReal) (X : FVec Ideal S2048x3072 .fp8e4m3) (W : FVec Ideal S768x3072 .fp8e4m3) (s : FVec Ideal S1x768 .f32) (sx : FVec Ideal S2048x128 .f32) (r : Fin 2048) (l : Fin 128) : EReal :=
  KT (o (ix2 r l)) (m (ix2 r l)) (KZ X W s sx r ⟨l, by omega⟩ l) (KZ X W s sx r ⟨128 + l, by omega⟩ l) (KZ X W s sx r ⟨256 + l, by omega⟩ l) (KZ X W s sx r ⟨384 + l, by omega⟩ l) (KZ X W s sx r ⟨512 + l, by omega⟩ l) (KZ X W s sx r ⟨640 + l, by omega⟩ l)

/-- The picked logit of a row's lane from the block's operands. -/
def RY (j : BitVec 32) (lab : IVec S2048x128 32) (o : S2048x128.Idx → EReal) (X : FVec Ideal S2048x3072 .fp8e4m3) (W : FVec Ideal S768x3072 .fp8e4m3) (s : FVec Ideal S1x768 .f32) (sx : FVec Ideal S2048x128 .f32) (r : Fin 2048) (l : Fin 128) : EReal :=
  KY (IntOp.subi (IntOp.subi (lab (ix2 r l)) (Scalar.muli j 768#32)) (BitVec.ofNat 32 l)) (o (ix2 r l)) (KZ X W s sx r ⟨l, by omega⟩ l) (KZ X W s sx r ⟨128 + l, by omega⟩ l) (KZ X W s sx r ⟨256 + l, by omega⟩ l) (KZ X W s sx r ⟨384 + l, by omega⟩ l) (KZ X W s sx r ⟨512 + l, by omega⟩ l) (KZ X W s sx r ⟨640 + l, by omega⟩ l)

/-- A function of a row and a lane, at an index given by its coordinates. -/
theorem lane_at (f : Fin 2048 → Fin 128 → EReal) (y : S2048x128.Idx) (x : Fin 128) {n : ℕ} (hr : ((y 0 : Fin 2048) : ℕ) = n)
    (h1 : ((y 1 : Fin 128) : ℕ) = x) : f ⟨n, hr ▸ (y 0).isLt⟩ x = f (y 0) (y 1) := by
  subst hr
  obtain rfl : x = y 1 := Fin.ext h1.symm
  rfl

/-- `KZ` at a row and a column given by their values. -/
theorem KZ_at (X : FVec Ideal S2048x3072 .fp8e4m3) (W : FVec Ideal S768x3072 .fp8e4m3) (s : FVec Ideal S1x768 .f32) (sx : FVec Ideal S2048x128 .f32) (y : S2048x768.Idx) (l : Fin 128) {n k : ℕ} (hr : ((y 0 : Fin 2048) : ℕ) = n)
    (hv : ((y 1 : Fin 768) : ℕ) = k) (hl : (l : ℕ) = k % 128) :
    KZ X W s sx ⟨n, hr ▸ (y 0).isLt⟩ ⟨k, hv ▸ (y 1).isLt⟩ l = KZ X W s sx (y 0) (y 1) ⟨(y 1 : Fin 768) % 128, Nat.mod_lt _ (by decide)⟩ := by
  subst hr hv
  obtain rfl : l = ⟨(y 1 : Fin 768) % 128, Nat.mod_lt _ (by decide)⟩ := Fin.ext hl
  rfl

set_option maxHeartbeats 4000000 in
/-- The block of logits that the first point leaves. -/
theorem zA (c : Dev nD) (t : Fin cfg0.N) (h : t.val % 167 = 0) (y : S2048x768.Idx) :
    (outsAt0 m c t.val t.isLt).1 y = KZ (iblk m c 0 t) (iblk m c 2 t) (iblk m c 4 t) (iblk m c 6 t) (y 0) (y 1) ⟨(y 1 : Fin 768) % 128, Nat.mod_lt _ (by decide)⟩ := by
  rw [outsAt0_A m c t h]
  frame_out
  canon_tiles x h
  all_goals
    open_payloads; pointwise
    exact KZ_at (iblk m c 0 t) (iblk m c 2 t) (iblk m c 4 t) (iblk m c 6 t) y (x 1) h0 h1 (by omega)

set_option maxHeartbeats 4000000 in
/-- The block of logits that a later point leaves. -/
theorem zB (c : Dev nD) (t : Fin cfg0.N) (h : ¬ t.val % 167 = 0) (y : S2048x768.Idx) :
    (outsAt0 m c t.val t.isLt).1 y = KZ (iblk m c 0 t) (iblk m c 2 t) (iblk m c 4 t) (iblk m c 6 t) (y 0) (y 1) ⟨(y 1 : Fin 768) % 128, Nat.mod_lt _ (by decide)⟩ := by
  rw [outsAt0_B m c t h]
  frame_out
  canon_tiles x h
  all_goals
    open_payloads; pointwise
    exact KZ_at (iblk m c 0 t) (iblk m c 2 t) (iblk m c 4 t) (iblk m c 6 t) y (x 1) h0 h1 (by omega)

end Cert.StatsIdeal.Val

end
-- ==== Proof.StatsReads.lean ====
/- The blocks of the operands of the statistics kernel, element by element. -/
module

public import proofs.«01_k».proof.Proof.StatsBlock
public import Idealize.ShloMosaic.Lib.Pipeline.ValueKit
public import Idealize.ShloMosaic.Lib.Pointwise
public import Idealize.ShloMosaic.Lib.Claim

@[expose] public section

set_option maxRecDepth 16384

noncomputable section

namespace Cert.StatsIdeal.Val

open Cert.StatsIdeal Cert.StatsIdeal.Gen Idealize.ShloMosaic Idealize.ShloMosaic.TcCoe Idealize.SL.Sem
open Idealize.ShloMosaic.Pipeline (Dat)

variable (m : (ℓ : Loc nD τ sig) → Buf (Elt Ideal) ℓ)

/-- The block index of every window at every grid point. -/
theorem idx : ∀ t : Fin cfg0.N, win0_0.index t = ![0, 0]
    ∧ win0_1.index t = ![0, 0]
    ∧ win0_2.index t = ![t.val, 0]
    ∧ win0_3.index t = ![t.val, 0]
    ∧ win0_4.index t = ![0, t.val]
    ∧ win0_5.index t = ![0, t.val]
    ∧ win0_6.index t = ![0, 0]
    ∧ win0_7.index t = ![0, 0]
    ∧ win0_8.index t = ![0, 0]
    ∧ win0_9.index t = ![0, t.val]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0] :=
  (by decide +kernel : ∀ t : Fin grid0.N, _)

/-- The grid's one coordinate is the point's number. -/
theorem coord : ∀ t : Fin cfg0.N, ((grid0.coords t 0 : Fin _) : ℕ) = t.val := (by decide +kernel : ∀ t : Fin grid0.N, _)

theorem col_lt (t : Fin cfg0.N) (v : Fin 768) : t.val * 768 + v < 128256 := by
  have := t.isLt
  simp only [show cfg0.N = 167 from by decide +kernel] at this
  omega

theorem read0 (c : Dev nD) (t : Fin cfg0.N) (r : Fin 2048) (k : Fin 3072) : iblk m c 0 t (ix2 r k) = (m ((c : Thread nD τ).loc main_arg0)) (ix2 r k) := by
  blk_point [iblk, V, idx t]

theorem read1 (c : Dev nD) (t : Fin cfg0.N) (r : Fin 2048) (k : Fin 3072) : iblk m c 1 t (ix2 r k) = (m ((c : Thread nD τ).loc main_arg1)) (ix2 r k) := by
  blk_point [iblk, V, idx t]

theorem read2 (c : Dev nD) (t : Fin cfg0.N) (v : Fin 768) (k : Fin 3072) : iblk m c 2 t (ix2 v k) = (m ((c : Thread nD τ).loc main_arg2)) (ix2 ⟨t.val * 768 + v, col_lt t v⟩ k) := by
  blk_point [iblk, V, idx t]

theorem read3 (c : Dev nD) (t : Fin cfg0.N) (v : Fin 768) (k : Fin 3072) : iblk m c 3 t (ix2 v k) = (m ((c : Thread nD τ).loc main_arg3)) (ix2 ⟨t.val * 768 + v, col_lt t v⟩ k) := by
  blk_point [iblk, V, idx t]

theorem read4 (c : Dev nD) (t : Fin cfg0.N) (v : Fin 768) : iblk m c 4 t (ix2 0 v) = (m ((c : Thread nD τ).loc main_arg4)) (ix1 ⟨t.val * 768 + v, col_lt t v⟩) := by
  blk_point [iblk, V, idx t]

theorem read5 (c : Dev nD) (t : Fin cfg0.N) (v : Fin 768) : iblk m c 5 t (ix2 0 v) = (m ((c : Thread nD τ).loc main_arg5)) (ix1 ⟨t.val * 768 + v, col_lt t v⟩) := by
  blk_point [iblk, V, idx t]

theorem read6 (c : Dev nD) (t : Fin cfg0.N) (r : Fin 2048) (l : Fin 128) : iblk m c 6 t (ix2 r l) = (m ((c : Thread nD τ).loc main_arg6)) (ix1 r) := by
  blk_point [iblk, V, idx t]

theorem read7 (c : Dev nD) (t : Fin cfg0.N) (r : Fin 2048) (l : Fin 128) : iblk m c 7 t (ix2 r l) = (m ((c : Thread nD τ).loc main_arg7)) (ix1 r) := by
  blk_point [iblk, V, idx t]

theorem read8 (c : Dev nD) (t : Fin cfg0.N) (r : Fin 2048) (l : Fin 128) : iblk m c 8 t (ix2 r l) = (m ((c : Thread nD τ).loc main_arg8)) (ix1 r) := by
  blk_point [iblk, V, idx t]

end Cert.StatsIdeal.Val

end
-- ==== Proof.StatsSpec.lean ====
/- The logits of one head and their statistics in every lane, as the reference states them. -/
module

public import Idealize.ShloMosaic.Init
public import Idealize.ShloMosaic.Lib.Pipeline.ValueKit
public import Idealize.ShloMosaic.Lib.Pointwise
public import Idealize.ShloMosaic.Lib.Claim

@[expose] public section

set_option maxRecDepth 16384

noncomputable section

namespace Cert.StatsSpec

open Idealize.ShloMosaic Idealize.ShloMosaic.TcCoe

/-- The logit of row `r` and column `v` in units of `log 2`: the product of the codes, times the row's scale, the column's scale and `log2 e / T`. -/
def logit (X : FVec Ideal ⟨2, ![2048, 3072]⟩ .fp8e4m3) (W : FVec Ideal ⟨2, ![128256, 3072]⟩ .fp8e4m3) (S : FVec Ideal ⟨1, ![128256]⟩ .f32) (SX : FVec Ideal ⟨1, ![2048]⟩ .f32) (r : Fin 2048) (v : Fin 128256) : EReal :=
  (∑ k : Fin 3072, X (ix2 r k) * W (ix2 v k)) * SX (ix1 r) * S (ix1 v) * Ideal.ofBits FTy.f32 1072092362#32

/-- The `j`-th column of lane `l`. -/
def col (j : Fin 1002) (l : Fin 128) : Fin 128256 := ⟨j * 128 + l, by omega⟩

/-- The logits of row `r` in lane `l`. -/
def lane (X : FVec Ideal ⟨2, ![2048, 3072]⟩ .fp8e4m3) (W : FVec Ideal ⟨2, ![128256, 3072]⟩ .fp8e4m3) (S : FVec Ideal ⟨1, ![128256]⟩ .f32) (SX : FVec Ideal ⟨1, ![2048]⟩ .f32) (r : Fin 2048) (l : Fin 128) (j : Fin 1002) : EReal := logit X W S SX r (col j l)

/-- The largest of a lane's logits, and at least `-1e30`. -/
def top (f : Fin 1002 → EReal) : EReal := max (Finset.univ.fold max ⊥ f) (Ideal.ofBits FTy.f32 4048155338#32)

/-- The sum of the powers of two. -/
def mass (f : Fin 1002 → EReal) : EReal := ∑ j, Ideal.exp2 (f j - top f)

/-- The sum of the powers of two, each times its logit. -/
def wmass (f : Fin 1002 → EReal) : EReal := ∑ j, Ideal.exp2 (f j - top f) * f j

/-- Whether column `v` is the label. -/
def hit (lab : BitVec 32) (v : ℕ) : BitVec 1 := IntOp.cmpi CmpIPredicate.eq (BitVec.ofNat 32 v) lab

/-- The label's logit, where the label lies in the lane, and zero elsewhere. -/
def pick (lab : BitVec 32) (l : Fin 128) (f : Fin 1002 → EReal) : EReal := ∑ j, Scalar.select (hit lab (col j l)) (f j) 0

/-- All logits. -/
def LOGITS (X : FVec Ideal ⟨2, ![2048, 3072]⟩ .fp8e4m3) (W : FVec Ideal ⟨2, ![128256, 3072]⟩ .fp8e4m3) (S : FVec Ideal ⟨1, ![128256]⟩ .f32) (SX : FVec Ideal ⟨1, ![2048]⟩ .f32) : FVec Ideal ⟨2, ![2048, 128256]⟩ .f32 := fun y => logit X W S SX (y 0) (y 1)

/-- The lane maxima. -/
def TOPS (X : FVec Ideal ⟨2, ![2048, 3072]⟩ .fp8e4m3) (W : FVec Ideal ⟨2, ![128256, 3072]⟩ .fp8e4m3) (S : FVec Ideal ⟨1, ![128256]⟩ .f32) (SX : FVec Ideal ⟨1, ![2048]⟩ .f32) : FVec Ideal ⟨2, ![2048, 128]⟩ .f32 := fun y => top (lane X W S SX (y 0) (y 1))

/-- The lane sums. -/
def MASSES (X : FVec Ideal ⟨2, ![2048, 3072]⟩ .fp8e4m3) (W : FVec Ideal ⟨2, ![128256, 3072]⟩ .fp8e4m3) (S : FVec Ideal ⟨1, ![128256]⟩ .f32) (SX : FVec Ideal ⟨1, ![2048]⟩ .f32) : FVec Ideal ⟨2, ![2048, 128]⟩ .f32 := fun y => mass (lane X W S SX (y 0) (y 1))

/-- The weighted lane sums. -/
def WMASSES (X : FVec Ideal ⟨2, ![2048, 3072]⟩ .fp8e4m3) (W : FVec Ideal ⟨2, ![128256, 3072]⟩ .fp8e4m3) (S : FVec Ideal ⟨1, ![128256]⟩ .f32) (SX : FVec Ideal ⟨1, ![2048]⟩ .f32) : FVec Ideal ⟨2, ![2048, 128]⟩ .f32 := fun y => wmass (lane X W S SX (y 0) (y 1))

/-- The label's logits. -/
def PICKS (X : FVec Ideal ⟨2, ![2048, 3072]⟩ .fp8e4m3) (W : FVec Ideal ⟨2, ![128256, 3072]⟩ .fp8e4m3) (S : FVec Ideal ⟨1, ![128256]⟩ .f32) (SX : FVec Ideal ⟨1, ![2048]⟩ .f32) (LAB : IVec ⟨1, ![2048]⟩ 32) : FVec Ideal ⟨2, ![2048, 128]⟩ .f32 := fun y => pick (LAB (ix1 (y 0))) (y 1) (lane X W S SX (y 0) (y 1))

end Cert.StatsSpec

end
-- ==== Proof.StatsMath.lean ====
/- The statistics of a lane, gathered as the lane is walked. -/
module

public import proofs.«01_k».proof.Proof.StatsSpec
public import Idealize.ShloMosaic.Lib.Pipeline.ValueKit
public import Idealize.ShloMosaic.Lib.Pointwise
public import Idealize.ShloMosaic.Lib.Claim

@[expose] public section

set_option maxRecDepth 16384

noncomputable section

namespace Cert.StatsSpec

open Idealize.ShloMosaic Idealize.ShloMosaic.TcCoe

/-- The running maximum of the first `n` values of `x`, from `b` on. -/
def Mx (b : EReal) (x : ℕ → EReal) : ℕ → EReal
  | 0 => b
  | n + 1 => max (Mx b x n) (x n)

theorem Mx_le {b : EReal} {x : ℕ → EReal} {n : ℕ} {c : EReal} : Mx b x n ≤ c ↔ b ≤ c ∧ ∀ i < n, x i ≤ c := by
  induction n with
  | zero => simp [Mx]
  | succ n ih =>
    rw [Mx, max_le_iff, ih]
    constructor
    · rintro ⟨⟨h1, h2⟩, h3⟩
      refine ⟨h1, fun i hi => ?_⟩
      rcases Nat.lt_succ_iff_lt_or_eq.mp hi with h | rfl
      · exact h2 i h
      · exact h3
    · rintro ⟨h1, h2⟩
      exact ⟨⟨h1, fun i hi => h2 i (by omega)⟩, h2 n (by omega)⟩

theorem le_Mx {b : EReal} {x : ℕ → EReal} {n i : ℕ} (h : i < n) : x i ≤ Mx b x n := (Mx_le.mp le_rfl).2 i h

theorem bound_le_Mx {b : EReal} {x : ℕ → EReal} {n : ℕ} : b ≤ Mx b x n := (Mx_le.mp le_rfl).1

theorem Mx_mono {b : EReal} {x : ℕ → EReal} {n k : ℕ} (h : n ≤ k) : Mx b x n ≤ Mx b x k :=
  Mx_le.mpr ⟨bound_le_Mx, fun i hi => le_Mx (by omega)⟩

/-- The running maximum of a whole lane is its largest value. -/
theorem Mx_eq (b : EReal) (x : ℕ → EReal) (n : ℕ) : Mx b x n = max (Finset.univ.fold max ⊥ fun j : Fin n => x j) b := by
  refine eq_of_forall_ge_iff fun c => ?_
  rw [Mx_le, max_le_iff, Finset.fold_max_le]
  constructor
  · rintro ⟨h1, h2⟩; exact ⟨⟨bot_le, fun j _ => h2 j j.isLt⟩, h1⟩
  · rintro ⟨⟨_, h2⟩, h1⟩; exact ⟨h1, fun i hi => h2 ⟨i, hi⟩ (Finset.mem_univ _)⟩

/-- A power of two is not negative. -/
theorem exp2_nonneg (x : EReal) : 0 ≤ Ideal.exp2 x := by
  induction x with
  | coe x => rw [Ideal.exp2_coe]; exact_mod_cast Real.rpow_nonneg (by norm_num) x
  | top => simp
  | bot => simp

/-- The factor by which a larger maximum rescales is finite. -/
theorem exp2_ne_top {M M' : EReal} (hM : M ≠ ⊥) (h : M ≤ M') : Ideal.exp2 (M - M') ≠ ⊤ := by
  induction M' with
  | top => rw [show M - ⊤ = ⊥ by rw [sub_eq_add_neg, EReal.neg_top, EReal.add_bot]]; simp
  | bot => exact absurd (le_bot_iff.mp h) hM
  | coe M' =>
    induction M with
    | top => exact absurd (top_le_iff.mp h) (EReal.coe_ne_top _)
    | bot => exact absurd rfl hM
    | coe M => rw [← EReal.coe_sub, Ideal.exp2_coe]; exact EReal.coe_ne_top _

/-- Rescaling a power of two from one maximum to a larger one. -/
theorem exp2_rescale {x M M' : EReal} (hM : M ≠ ⊥) (hx : x ≤ M) (h : M ≤ M') :
    Ideal.exp2 (x - M) * Ideal.exp2 (M - M') = Ideal.exp2 (x - M') := by
  induction M' with
  | top =>
    rw [show M - ⊤ = ⊥ by rw [sub_eq_add_neg, EReal.neg_top, EReal.add_bot],
      show x - ⊤ = ⊥ by rw [sub_eq_add_neg, EReal.neg_top, EReal.add_bot]]; simp
  | bot => exact absurd (le_bot_iff.mp h) hM
  | coe M' =>
    induction M with
    | top => exact absurd (top_le_iff.mp h) (EReal.coe_ne_top _)
    | bot => exact absurd rfl hM
    | coe M =>
      induction x with
      | top => exact absurd (top_le_iff.mp hx) (EReal.coe_ne_top _)
      | bot => rw [EReal.bot_sub, EReal.bot_sub]; simp
      | coe x =>
        simp only [← EReal.coe_sub, Ideal.exp2_coe, ← EReal.coe_mul]
        congr 1
        show (2 : ℝ) ^ (x - M) * (2 : ℝ) ^ (M - M') = (2 : ℝ) ^ (x - M')
        rw [← Real.rpow_add (by norm_num)]
        congr 1; ring

theorem sum_mul_of_nonneg (n : ℕ) (f : ℕ → EReal) {a : EReal} (h : 0 ≤ a) (h' : a ≠ ⊤) :
    (∑ i ∈ Finset.range n, f i) * a = ∑ i ∈ Finset.range n, f i * a := by
  induction n with
  | zero => simp
  | succ n ih => rw [Finset.sum_range_succ, Finset.sum_range_succ, EReal.right_distrib_of_nonneg_of_ne_top h h', ih]

/-- The running sum, rescaled to a later maximum. -/
theorem sum_rescale {b : EReal} (hb : b ≠ ⊥) (x : ℕ → EReal) (n k : ℕ) (hk : n ≤ k) :
    (∑ i ∈ Finset.range n, Ideal.exp2 (x i - Mx b x n)) * Ideal.exp2 (Mx b x n - Mx b x k)
      = ∑ i ∈ Finset.range n, Ideal.exp2 (x i - Mx b x k) := by
  have hM : Mx b x n ≠ ⊥ := fun h => hb (le_bot_iff.mp (h ▸ bound_le_Mx))
  rw [sum_mul_of_nonneg _ _ (exp2_nonneg _) (exp2_ne_top hM (Mx_mono hk))]
  exact Finset.sum_congr rfl fun i hi => exp2_rescale hM (le_Mx (Finset.mem_range.mp hi)) (Mx_mono hk)

/-- The running weighted sum, rescaled to a later maximum. -/
theorem wsum_rescale {b : EReal} (hb : b ≠ ⊥) (x : ℕ → EReal) (n k : ℕ) (hk : n ≤ k) :
    (∑ i ∈ Finset.range n, Ideal.exp2 (x i - Mx b x n) * x i) * Ideal.exp2 (Mx b x n - Mx b x k)
      = ∑ i ∈ Finset.range n, Ideal.exp2 (x i - Mx b x k) * x i := by
  have hM : Mx b x n ≠ ⊥ := fun h => hb (le_bot_iff.mp (h ▸ bound_le_Mx))
  rw [sum_mul_of_nonneg _ _ (exp2_nonneg _) (exp2_ne_top hM (Mx_mono hk))]
  exact Finset.sum_congr rfl fun i hi => by
    rw [mul_right_comm, exp2_rescale hM (le_Mx (Finset.mem_range.mp hi)) (Mx_mono hk)]

/-- The values that a walk over the lane keeps whenever its column is the label. -/
def Yx (h : ℕ → BitVec 1) (x : ℕ → EReal) : ℕ → EReal
  | 0 => 0
  | n + 1 => Scalar.select (h n) (x n) (Yx h x n)

/-- With at most one hit the value kept is the sum over the hits. -/
theorem Yx_eq (h : ℕ → BitVec 1) (x : ℕ → EReal) (n : ℕ) (hu : ∀ i < n, ∀ j < n, h i = 1#1 → h j = 1#1 → i = j) :
    Yx h x n = ∑ i ∈ Finset.range n, Scalar.select (h i) (x i) 0 := by
  induction n with
  | zero => rfl
  | succ n ih =>
    rw [Finset.sum_range_succ, ← ih fun i hi j hj => hu i (by omega) j (by omega), Yx]
    by_cases e : h n = 1#1
    · rw [e]
      have hz : Yx h x n = 0 := by
        rw [ih fun i hi j hj => hu i (by omega) j (by omega)]
        refine Finset.sum_eq_zero fun i hi => ?_
        have hi := Finset.mem_range.mp hi
        have : h i ≠ 1#1 := fun e' => by have := hu i (by omega) n (by omega) e' e; omega
        simp [Scalar.select, this]
      rw [hz]; simp [Scalar.select]
    · simp [Scalar.select, e]

end Cert.StatsSpec

end
-- ==== Proof.StatsSteps.lean ====
/- One grid point carries the running statistics six chunks on. -/
module

public import proofs.«01_k».proof.Proof.StatsBlock
public import proofs.«01_k».proof.Proof.StatsMath
public import proofs.«01_k».proof.Proof.StatsSpec
public import proofs.«01_k».proof.Proof.GradMath
public import Idealize.ShloMosaic.Lib.Pipeline.ValueKit
public import Idealize.ShloMosaic.Lib.Pointwise
public import Idealize.ShloMosaic.Lib.Claim

@[expose] public section

set_option maxRecDepth 16384

noncomputable section

namespace Cert.StatsIdeal.Val

open Cert.StatsIdeal Cert.StatsIdeal.Gen Idealize.ShloMosaic Idealize.ShloMosaic.TcCoe Idealize.SL.Sem
open Idealize.ShloMosaic.Pipeline (Dat)
open Cert.StatsSpec

/-- A lane's values by number, zero past the last. -/
def ext (f : Fin 1002 → EReal) (n : ℕ) : EReal := if h : n < 1002 then f ⟨n, h⟩ else 0

theorem ext_fin (f : Fin 1002 → EReal) (j : Fin 1002) : ext f j = f j := dif_pos j.isLt

/-- The statistics' lower bound of the maxima. -/
abbrev low : EReal := Ideal.ofBits FTy.f32 4048155338#32

theorem low_ne : low ≠ ⊥ := by
  simp [low, Ideal.ofBits, Ideal.ieee]
  exact_mod_cast EReal.coe_ne_top _

section

variable {X : FVec Ideal S2048x3072 .fp8e4m3} {W : FVec Ideal S768x3072 .fp8e4m3} {s : FVec Ideal S1x768 .f32} {sx : FVec Ideal S2048x128 .f32} {r : Fin 2048} {l : Fin 128} {n : ℕ} {x : ℕ → EReal}
  (hz : ∀ (k : ℕ) (v : Fin 768), k < 6 → (v : ℕ) = k * 128 + l → KZ X W s sx r v l = x (n + k))

include hz

/-- The running maximum after one more block. -/
theorem RM_step {b : EReal} {o : S2048x128.Idx → EReal} (ho : o (ix2 r l) = Mx b x n) : RM o X W s sx r l = Mx b x (n + 6) := by
  unfold RM
  rw [hz 0 ⟨l, by omega⟩ (by omega) (by simp), hz 1 ⟨128 + l, by omega⟩ (by omega) (by simp), hz 2 ⟨256 + l, by omega⟩ (by omega) (by simp),
    hz 3 ⟨384 + l, by omega⟩ (by omega) (by simp), hz 4 ⟨512 + l, by omega⟩ (by omega) (by simp), hz 5 ⟨640 + l, by omega⟩ (by omega) (by simp), ho]
  rfl

/-- The running mass after one more block. -/
theorem RL_step {b : EReal} (hb : b ≠ ⊥) {o p : S2048x128.Idx → EReal} (hp : p (ix2 r l) = Mx b x n)
    (ho : o (ix2 r l) = ∑ i ∈ Finset.range n, Ideal.exp2 (x i - Mx b x n)) :
    RL o p X W s sx r l = ∑ i ∈ Finset.range (n + 6), Ideal.exp2 (x i - Mx b x (n + 6)) := by
  unfold RL
  rw [hz 0 ⟨l, by omega⟩ (by omega) (by simp), hz 1 ⟨128 + l, by omega⟩ (by omega) (by simp), hz 2 ⟨256 + l, by omega⟩ (by omega) (by simp),
    hz 3 ⟨384 + l, by omega⟩ (by omega) (by simp), hz 4 ⟨512 + l, by omega⟩ (by omega) (by simp), hz 5 ⟨640 + l, by omega⟩ (by omega) (by simp), ho]
  rw [hp]
  simp only [Finset.sum_range_succ]
  rw [← sum_rescale hb x n (n + 6) (by omega)]
  rfl

/-- The running weighted mass after one more block. -/
theorem RT_step {b : EReal} (hb : b ≠ ⊥) {o p : S2048x128.Idx → EReal} (hp : p (ix2 r l) = Mx b x n)
    (ho : o (ix2 r l) = ∑ i ∈ Finset.range n, Ideal.exp2 (x i - Mx b x n) * x i) :
    RT o p X W s sx r l = ∑ i ∈ Finset.range (n + 6), Ideal.exp2 (x i - Mx b x (n + 6)) * x i := by
  unfold RT
  rw [hz 0 ⟨l, by omega⟩ (by omega) (by simp), hz 1 ⟨128 + l, by omega⟩ (by omega) (by simp), hz 2 ⟨256 + l, by omega⟩ (by omega) (by simp),
    hz 3 ⟨384 + l, by omega⟩ (by omega) (by simp), hz 4 ⟨512 + l, by omega⟩ (by omega) (by simp), hz 5 ⟨640 + l, by omega⟩ (by omega) (by simp), ho]
  rw [hp]
  simp only [Finset.sum_range_succ]
  rw [← wsum_rescale hb x n (n + 6) (by omega)]
  rfl

/-- The picked logit after one more block. -/
theorem RY_step {j : BitVec 32} {lab : IVec S2048x128 32} {h : ℕ → BitVec 1} {o : S2048x128.Idx → EReal} (ho : o (ix2 r l) = Yx h x n)
    (hh : ∀ k < 6, IntOp.cmpi CmpIPredicate.eq (IntOp.subi (IntOp.subi (lab (ix2 r l)) (Scalar.muli j 768#32)) (BitVec.ofNat 32 l)) (BitVec.ofNat 32 (128 * k)) = h (n + k)) :
    RY j lab o X W s sx r l = Yx h x (n + 6) := by
  unfold RY KY
  rw [hz 0 ⟨l, by omega⟩ (by omega) (by simp), hz 1 ⟨128 + l, by omega⟩ (by omega) (by simp), hz 2 ⟨256 + l, by omega⟩ (by omega) (by simp),
    hz 3 ⟨384 + l, by omega⟩ (by omega) (by simp), hz 4 ⟨512 + l, by omega⟩ (by omega) (by simp), hz 5 ⟨640 + l, by omega⟩ (by omega) (by simp), ho]
  generalize IntOp.subi (IntOp.subi (lab (ix2 r l)) (Scalar.muli j 768#32)) (BitVec.ofNat 32 l) = w at hh ⊢
  rw [show IntOp.cmpi CmpIPredicate.eq w 0#32 = h (n + 0) from hh 0 (by omega), show IntOp.cmpi CmpIPredicate.eq w 128#32 = h (n + 1) from hh 1 (by omega),
    show IntOp.cmpi CmpIPredicate.eq w 256#32 = h (n + 2) from hh 2 (by omega), show IntOp.cmpi CmpIPredicate.eq w 384#32 = h (n + 3) from hh 3 (by omega),
    show IntOp.cmpi CmpIPredicate.eq w 512#32 = h (n + 4) from hh 4 (by omega), show IntOp.cmpi CmpIPredicate.eq w 640#32 = h (n + 5) from hh 5 (by omega)]
  rfl

end

/-- Two tests for equality agree when the equalities do. -/
theorem cmpi_congr {a b c d : BitVec 32} (h : a = b ↔ c = d) : IntOp.cmpi CmpIPredicate.eq a b = IntOp.cmpi CmpIPredicate.eq c d := by
  show BitVec.ofBool (a == b) = BitVec.ofBool (c == d)
  by_cases e : a = b
  · rw [beq_iff_eq.mpr e, beq_iff_eq.mpr (h.mp e)]
  · rw [beq_eq_false_iff_ne.mpr e, beq_eq_false_iff_ne.mpr fun e' => e (h.mpr e')]

/-- The kernel's test of a chunk is the test whether the chunk's column of the lane is the label. -/
theorem test_eq (lab : BitVec 32) (t l k : ℕ) :
    IntOp.cmpi CmpIPredicate.eq (IntOp.subi (IntOp.subi lab (Scalar.muli (BitVec.ofNat 32 t) 768#32)) (BitVec.ofNat 32 l)) (BitVec.ofNat 32 (128 * k))
      = hit lab ((6 * t + k) * 128 + l) := by
  have e := Cert.GradSpec.hit_iff lab t (128 * k + l) l (by omega)
  rw [Nat.add_sub_cancel, show t * 768 + (128 * k + l) = (6 * t + k) * 128 + l by omega] at e
  exact cmpi_congr e

/-- The running maximum of a whole lane is its top. -/
theorem top_eq (f : Fin 1002 → EReal) : Mx low (ext f) 1002 = top f := by
  rw [Mx_eq]
  simp only [ext_fin]
  rfl

/-- The running mass of a whole lane is its mass. -/
theorem mass_eq (f : Fin 1002 → EReal) : ∑ i ∈ Finset.range 1002, Ideal.exp2 (ext f i - Mx low (ext f) 1002) = mass f := by
  rw [Finset.sum_range, top_eq]
  simp only [ext_fin]
  rfl

/-- The running weighted mass of a whole lane is its weighted mass. -/
theorem wmass_eq (f : Fin 1002 → EReal) : ∑ i ∈ Finset.range 1002, Ideal.exp2 (ext f i - Mx low (ext f) 1002) * ext f i = wmass f := by
  rw [Finset.sum_range, top_eq]
  simp only [ext_fin]
  rfl

theorem hit_one {lab : BitVec 32} {v : ℕ} (h : hit lab v = 1#1) : BitVec.ofNat 32 v = lab := by
  by_contra e
  have h : BitVec.ofBool (BitVec.ofNat 32 v == lab) = 1#1 := h
  rw [beq_eq_false_iff_ne.mpr e] at h
  exact absurd h (by decide)

/-- The label's logit of a whole lane. -/
theorem pick_eq (lab : BitVec 32) (l : Fin 128) (f : Fin 1002 → EReal) : Yx (fun i => hit lab (i * 128 + l)) (ext f) 1002 = pick lab l f := by
  rw [Yx_eq, Finset.sum_range]
  · simp only [ext_fin]
    rfl
  · intro i hi j hj h1 h2
    have e := congrArg BitVec.toNat ((hit_one h1).trans (hit_one h2).symm)
    have hl := l.isLt
    rw [BitVec.toNat_ofNat, BitVec.toNat_ofNat, Nat.mod_eq_of_lt (by omega), Nat.mod_eq_of_lt (by omega)] at e
    omega

end Cert.StatsIdeal.Val

end
-- ==== Proof.StatsMax.lean ====
/- The running maxima that one grid point leaves. -/
module

public import proofs.«01_k».proof.Proof.StatsBlock
public import proofs.«01_k».proof.Proof.GradProd
public import Idealize.ShloMosaic.Lib.Pipeline.ValueKit
public import Idealize.ShloMosaic.Lib.Pointwise
public import Idealize.ShloMosaic.Lib.Claim

@[expose] public section

set_option maxRecDepth 16384

noncomputable section

namespace Cert.StatsIdeal.Val

open Cert.StatsIdeal Cert.StatsIdeal.Gen Idealize.ShloMosaic Idealize.ShloMosaic.TcCoe Idealize.SL.Sem
open Idealize.ShloMosaic.Pipeline (Dat)

variable (m : (ℓ : Loc nD τ sig) → Buf (Elt Ideal) ℓ)

set_option maxHeartbeats 4000000 in
/-- The policy's running maximum that the first point leaves. -/
theorem mA (c : Dev nD) (t : Fin cfg0.N) (h : t.val % 167 = 0) (y : S2048x128.Idx) :
    (outsAt0 m c t.val t.isLt).2.1 y = RM (fun _ => Ideal.ofBits FTy.f32 4048155338#32) (iblk m c 0 t) (iblk m c 2 t) (iblk m c 4 t) (iblk m c 6 t) (y 0) (y 1) := by
  rw [outsAt0_A m c t h]
  frame_open
  simp (disch := decide) only [↓View.readCov_skip, ↓View.readCov_fill]
  frame_out
  refine Cert.GradIdeal.Val.canon_keep [_, _, _, _] [_] y _ ?_ (View.cover_of_tiled_head _ _ _ (by rfl) _)
  canon_tiles x h
  all_goals
    open_payloads; pointwise [k0_pay1, k0_pay2]
    exact lane_at (RM (fun _ => Ideal.ofBits FTy.f32 4048155338#32) (iblk m c 0 t) (iblk m c 2 t) (iblk m c 4 t) (iblk m c 6 t)) y (x 1) h0 h1

set_option maxHeartbeats 4000000 in
/-- The policy's running maximum that a later point leaves. -/
theorem mB (c : Dev nD) (t : Fin cfg0.N) (h : ¬ t.val % 167 = 0) (y : S2048x128.Idx) :
    (outsAt0 m c t.val t.isLt).2.1 y = RM (outsAt0 m c (t.val - 1) (by omega)).2.1 (iblk m c 0 t) (iblk m c 2 t) (iblk m c 4 t) (iblk m c 6 t) (y 0) (y 1) := by
  rw [outsAt0_B m c t h]
  frame_out
  canon_tiles x h
  all_goals
    open_payloads; pointwise
    exact lane_at (RM (outsAt0 m c (t.val - 1) (by omega)).2.1 (iblk m c 0 t) (iblk m c 2 t) (iblk m c 4 t) (iblk m c 6 t)) y (x 1) h0 h1

set_option maxHeartbeats 4000000 in
/-- The reference model's running maximum that the first point leaves. -/
theorem mrA (c : Dev nD) (t : Fin cfg0.N) (h : t.val % 167 = 0) (y : S2048x128.Idx) :
    (outsAt0 m c t.val t.isLt).2.2.2.2.2.1 y = RM (fun _ => Ideal.ofBits FTy.f32 4048155338#32) (iblk m c 1 t) (iblk m c 3 t) (iblk m c 5 t) (iblk m c 7 t) (y 0) (y 1) := by
  rw [outsAt0_A m c t h]
  frame_open
  simp (disch := decide) only [↓View.readCov_skip, ↓View.readCov_fill]
  frame_out
  refine Cert.GradIdeal.Val.canon_keep [_, _, _, _] [_] y _ ?_ (View.cover_of_tiled_head _ _ _ (by rfl) _)
  canon_tiles x h
  all_goals
    open_payloads; pointwise [k0_pay1, k0_pay2]
    exact lane_at (RM (fun _ => Ideal.ofBits FTy.f32 4048155338#32) (iblk m c 1 t) (iblk m c 3 t) (iblk m c 5 t) (iblk m c 7 t)) y (x 1) h0 h1

set_option maxHeartbeats 4000000 in
/-- The reference model's running maximum that a later point leaves. -/
theorem mrB (c : Dev nD) (t : Fin cfg0.N) (h : ¬ t.val % 167 = 0) (y : S2048x128.Idx) :
    (outsAt0 m c t.val t.isLt).2.2.2.2.2.1 y = RM (outsAt0 m c (t.val - 1) (by omega)).2.2.2.2.2.1 (iblk m c 1 t) (iblk m c 3 t) (iblk m c 5 t) (iblk m c 7 t) (y 0) (y 1) := by
  rw [outsAt0_B m c t h]
  frame_out
  canon_tiles x h
  all_goals
    open_payloads; pointwise
    exact lane_at (RM (outsAt0 m c (t.val - 1) (by omega)).2.2.2.2.2.1 (iblk m c 1 t) (iblk m c 3 t) (iblk m c 5 t) (iblk m c 7 t)) y (x 1) h0 h1

end Cert.StatsIdeal.Val

end
-- ==== Proof.StatsMass.lean ====
/- The running masses that one grid point leaves. -/
module

public import proofs.«01_k».proof.Proof.StatsBlock
public import proofs.«01_k».proof.Proof.GradProd
public import Idealize.ShloMosaic.Lib.Pipeline.ValueKit
public import Idealize.ShloMosaic.Lib.Pointwise
public import Idealize.ShloMosaic.Lib.Claim

@[expose] public section

set_option maxRecDepth 16384

noncomputable section

namespace Cert.StatsIdeal.Val

open Cert.StatsIdeal Cert.StatsIdeal.Gen Idealize.ShloMosaic Idealize.ShloMosaic.TcCoe Idealize.SL.Sem
open Idealize.ShloMosaic.Pipeline (Dat)

variable (m : (ℓ : Loc nD τ sig) → Buf (Elt Ideal) ℓ)

set_option maxHeartbeats 4000000 in
/-- The policy's running mass that the first point leaves. -/
theorem lA (c : Dev nD) (t : Fin cfg0.N) (h : t.val % 167 = 0) (y : S2048x128.Idx) :
    (outsAt0 m c t.val t.isLt).2.2.1 y = RL (fun _ => 0) (fun _ => Ideal.ofBits FTy.f32 4048155338#32) (iblk m c 0 t) (iblk m c 2 t) (iblk m c 4 t) (iblk m c 6 t) (y 0) (y 1) := by
  rw [outsAt0_A m c t h]
  frame_open
  simp (disch := decide) only [↓View.readCov_skip, ↓View.readCov_fill]
  frame_out
  refine Cert.GradIdeal.Val.canon_keep [_, _, _, _] [_] y _ ?_ (View.cover_of_tiled_head _ _ _ (by rfl) _)
  canon_tiles x h
  all_goals
    open_payloads; pointwise [k0_pay1, k0_pay2]
    exact lane_at (RL (fun _ => 0) (fun _ => Ideal.ofBits FTy.f32 4048155338#32) (iblk m c 0 t) (iblk m c 2 t) (iblk m c 4 t) (iblk m c 6 t)) y (x 1) h0 h1

set_option maxHeartbeats 4000000 in
/-- The policy's running mass that a later point leaves. -/
theorem lB (c : Dev nD) (t : Fin cfg0.N) (h : ¬ t.val % 167 = 0) (y : S2048x128.Idx) :
    (outsAt0 m c t.val t.isLt).2.2.1 y = RL (outsAt0 m c (t.val - 1) (by omega)).2.2.1 (outsAt0 m c (t.val - 1) (by omega)).2.1 (iblk m c 0 t) (iblk m c 2 t) (iblk m c 4 t) (iblk m c 6 t) (y 0) (y 1) := by
  rw [outsAt0_B m c t h]
  frame_out
  canon_tiles x h
  all_goals
    open_payloads; pointwise
    exact lane_at (RL (outsAt0 m c (t.val - 1) (by omega)).2.2.1 (outsAt0 m c (t.val - 1) (by omega)).2.1 (iblk m c 0 t) (iblk m c 2 t) (iblk m c 4 t) (iblk m c 6 t)) y (x 1) h0 h1

set_option maxHeartbeats 4000000 in
/-- The reference model's running mass that the first point leaves. -/
theorem lrA (c : Dev nD) (t : Fin cfg0.N) (h : t.val % 167 = 0) (y : S2048x128.Idx) :
    (outsAt0 m c t.val t.isLt).2.2.2.2.2.2.1 y = RL (fun _ => 0) (fun _ => Ideal.ofBits FTy.f32 4048155338#32) (iblk m c 1 t) (iblk m c 3 t) (iblk m c 5 t) (iblk m c 7 t) (y 0) (y 1) := by
  rw [outsAt0_A m c t h]
  frame_open
  simp (disch := decide) only [↓View.readCov_skip, ↓View.readCov_fill]
  frame_out
  refine Cert.GradIdeal.Val.canon_keep [_, _, _, _] [_] y _ ?_ (View.cover_of_tiled_head _ _ _ (by rfl) _)
  canon_tiles x h
  all_goals
    open_payloads; pointwise [k0_pay1, k0_pay2]
    exact lane_at (RL (fun _ => 0) (fun _ => Ideal.ofBits FTy.f32 4048155338#32) (iblk m c 1 t) (iblk m c 3 t) (iblk m c 5 t) (iblk m c 7 t)) y (x 1) h0 h1

set_option maxHeartbeats 4000000 in
/-- The reference model's running mass that a later point leaves. -/
theorem lrB (c : Dev nD) (t : Fin cfg0.N) (h : ¬ t.val % 167 = 0) (y : S2048x128.Idx) :
    (outsAt0 m c t.val t.isLt).2.2.2.2.2.2.1 y = RL (outsAt0 m c (t.val - 1) (by omega)).2.2.2.2.2.2.1 (outsAt0 m c (t.val - 1) (by omega)).2.2.2.2.2.1 (iblk m c 1 t) (iblk m c 3 t) (iblk m c 5 t) (iblk m c 7 t) (y 0) (y 1) := by
  rw [outsAt0_B m c t h]
  frame_out
  canon_tiles x h
  all_goals
    open_payloads; pointwise
    exact lane_at (RL (outsAt0 m c (t.val - 1) (by omega)).2.2.2.2.2.2.1 (outsAt0 m c (t.val - 1) (by omega)).2.2.2.2.2.1 (iblk m c 1 t) (iblk m c 3 t) (iblk m c 5 t) (iblk m c 7 t)) y (x 1) h0 h1

end Cert.StatsIdeal.Val

end
-- ==== Proof.StatsWmass.lean ====
/- The running weighted masses that one grid point leaves. -/
module

public import proofs.«01_k».proof.Proof.StatsBlock
public import proofs.«01_k».proof.Proof.GradProd
public import Idealize.ShloMosaic.Lib.Pipeline.ValueKit
public import Idealize.ShloMosaic.Lib.Pointwise
public import Idealize.ShloMosaic.Lib.Claim

@[expose] public section

set_option maxRecDepth 16384

noncomputable section

namespace Cert.StatsIdeal.Val

open Cert.StatsIdeal Cert.StatsIdeal.Gen Idealize.ShloMosaic Idealize.ShloMosaic.TcCoe Idealize.SL.Sem
open Idealize.ShloMosaic.Pipeline (Dat)

variable (m : (ℓ : Loc nD τ sig) → Buf (Elt Ideal) ℓ)

set_option maxHeartbeats 4000000 in
/-- The policy's running weighted mass that the first point leaves. -/
theorem tA (c : Dev nD) (t : Fin cfg0.N) (h : t.val % 167 = 0) (y : S2048x128.Idx) :
    (outsAt0 m c t.val t.isLt).2.2.2.1 y = RT (fun _ => 0) (fun _ => Ideal.ofBits FTy.f32 4048155338#32) (iblk m c 0 t) (iblk m c 2 t) (iblk m c 4 t) (iblk m c 6 t) (y 0) (y 1) := by
  rw [outsAt0_A m c t h]
  frame_open
  simp (disch := decide) only [↓View.readCov_skip, ↓View.readCov_fill]
  frame_out
  refine Cert.GradIdeal.Val.canon_keep [_, _, _, _] [_] y _ ?_ (View.cover_of_tiled_head _ _ _ (by rfl) _)
  canon_tiles x h
  all_goals
    open_payloads; pointwise [k0_pay1, k0_pay2]
    exact lane_at (RT (fun _ => 0) (fun _ => Ideal.ofBits FTy.f32 4048155338#32) (iblk m c 0 t) (iblk m c 2 t) (iblk m c 4 t) (iblk m c 6 t)) y (x 1) h0 h1

set_option maxHeartbeats 4000000 in
/-- The policy's running weighted mass that a later point leaves. -/
theorem tB (c : Dev nD) (t : Fin cfg0.N) (h : ¬ t.val % 167 = 0) (y : S2048x128.Idx) :
    (outsAt0 m c t.val t.isLt).2.2.2.1 y = RT (outsAt0 m c (t.val - 1) (by omega)).2.2.2.1 (outsAt0 m c (t.val - 1) (by omega)).2.1 (iblk m c 0 t) (iblk m c 2 t) (iblk m c 4 t) (iblk m c 6 t) (y 0) (y 1) := by
  rw [outsAt0_B m c t h]
  frame_out
  canon_tiles x h
  all_goals
    open_payloads; pointwise
    exact lane_at (RT (outsAt0 m c (t.val - 1) (by omega)).2.2.2.1 (outsAt0 m c (t.val - 1) (by omega)).2.1 (iblk m c 0 t) (iblk m c 2 t) (iblk m c 4 t) (iblk m c 6 t)) y (x 1) h0 h1

end Cert.StatsIdeal.Val

end
-- ==== Proof.StatsPick.lean ====
/- The picked logits that one grid point leaves. -/
module

public import proofs.«01_k».proof.Proof.StatsBlock
public import proofs.«01_k».proof.Proof.GradProd
public import Idealize.ShloMosaic.Lib.Pipeline.ValueKit
public import Idealize.ShloMosaic.Lib.Pointwise
public import Idealize.ShloMosaic.Lib.Claim

@[expose] public section

set_option maxRecDepth 16384

noncomputable section

namespace Cert.StatsIdeal.Val

open Cert.StatsIdeal Cert.StatsIdeal.Gen Idealize.ShloMosaic Idealize.ShloMosaic.TcCoe Idealize.SL.Sem
open Idealize.ShloMosaic.Pipeline (Dat)

variable (m : (ℓ : Loc nD τ sig) → Buf (Elt Ideal) ℓ)

set_option maxHeartbeats 4000000 in
/-- The policy's picked logit that the first point leaves. -/
theorem yA (c : Dev nD) (t : Fin cfg0.N) (h : t.val % 167 = 0) (y : S2048x128.Idx) :
    (outsAt0 m c t.val t.isLt).2.2.2.2.1 y = RY (BitVec.ofNat 32 (grid0.coords t 0)) (iblk m c 8 t) (fun _ => 0) (iblk m c 0 t) (iblk m c 2 t) (iblk m c 4 t) (iblk m c 6 t) (y 0) (y 1) := by
  rw [outsAt0_A m c t h]
  frame_open
  simp (disch := decide) only [↓View.readCov_skip, ↓View.readCov_fill]
  frame_out
  refine Cert.GradIdeal.Val.canon_keep [_, _, _, _] [_] y _ ?_ (View.cover_of_tiled_head _ _ _ (by rfl) _)
  canon_tiles x h
  all_goals
    open_payloads; pointwise [k0_pay1, k0_pay2]
    exact lane_at (RY (BitVec.ofNat 32 (grid0.coords t 0)) (iblk m c 8 t) (fun _ => 0) (iblk m c 0 t) (iblk m c 2 t) (iblk m c 4 t) (iblk m c 6 t)) y (x 1) h0 h1

set_option maxHeartbeats 4000000 in
/-- The policy's picked logit that a later point leaves. -/
theorem yB (c : Dev nD) (t : Fin cfg0.N) (h : ¬ t.val % 167 = 0) (y : S2048x128.Idx) :
    (outsAt0 m c t.val t.isLt).2.2.2.2.1 y = RY (BitVec.ofNat 32 (grid0.coords t 0)) (iblk m c 8 t) (outsAt0 m c (t.val - 1) (by omega)).2.2.2.2.1 (iblk m c 0 t) (iblk m c 2 t) (iblk m c 4 t) (iblk m c 6 t) (y 0) (y 1) := by
  rw [outsAt0_B m c t h]
  frame_out
  canon_tiles x h
  all_goals
    open_payloads; pointwise
    exact lane_at (RY (BitVec.ofNat 32 (grid0.coords t 0)) (iblk m c 8 t) (outsAt0 m c (t.val - 1) (by omega)).2.2.2.2.1 (iblk m c 0 t) (iblk m c 2 t) (iblk m c 4 t) (iblk m c 6 t)) y (x 1) h0 h1

set_option maxHeartbeats 4000000 in
/-- The reference model's picked logit that the first point leaves. -/
theorem yrA (c : Dev nD) (t : Fin cfg0.N) (h : t.val % 167 = 0) (y : S2048x128.Idx) :
    (outsAt0 m c t.val t.isLt).2.2.2.2.2.2.2 y = RY (BitVec.ofNat 32 (grid0.coords t 0)) (iblk m c 8 t) (fun _ => 0) (iblk m c 1 t) (iblk m c 3 t) (iblk m c 5 t) (iblk m c 7 t) (y 0) (y 1) := by
  rw [outsAt0_A m c t h]
  frame_open
  simp (disch := decide) only [↓View.readCov_skip, ↓View.readCov_fill]
  frame_out
  refine Cert.GradIdeal.Val.canon_keep [_, _, _, _] [_] y _ ?_ (View.cover_of_tiled_head _ _ _ (by rfl) _)
  canon_tiles x h
  all_goals
    open_payloads; pointwise [k0_pay1, k0_pay2]
    exact lane_at (RY (BitVec.ofNat 32 (grid0.coords t 0)) (iblk m c 8 t) (fun _ => 0) (iblk m c 1 t) (iblk m c 3 t) (iblk m c 5 t) (iblk m c 7 t)) y (x 1) h0 h1

set_option maxHeartbeats 4000000 in
/-- The reference model's picked logit that a later point leaves. -/
theorem yrB (c : Dev nD) (t : Fin cfg0.N) (h : ¬ t.val % 167 = 0) (y : S2048x128.Idx) :
    (outsAt0 m c t.val t.isLt).2.2.2.2.2.2.2 y = RY (BitVec.ofNat 32 (grid0.coords t 0)) (iblk m c 8 t) (outsAt0 m c (t.val - 1) (by omega)).2.2.2.2.2.2.2 (iblk m c 1 t) (iblk m c 3 t) (iblk m c 5 t) (iblk m c 7 t) (y 0) (y 1) := by
  rw [outsAt0_B m c t h]
  frame_out
  canon_tiles x h
  all_goals
    open_payloads; pointwise
    exact lane_at (RY (BitVec.ofNat 32 (grid0.coords t 0)) (iblk m c 8 t) (outsAt0 m c (t.val - 1) (by omega)).2.2.2.2.2.2.2 (iblk m c 1 t) (iblk m c 3 t) (iblk m c 5 t) (iblk m c 7 t)) y (x 1) h0 h1

end Cert.StatsIdeal.Val

end
-- ==== Proof.StatsValue.lean ====
/- The arrays the statistics kernel leaves are those of the reference. -/
module

public import proofs.«01_k».proof.Proof.StatsReads
public import proofs.«01_k».proof.Proof.StatsSteps
public import proofs.«01_k».proof.Proof.StatsMax
public import proofs.«01_k».proof.Proof.StatsMass
public import proofs.«01_k».proof.Proof.StatsWmass
public import proofs.«01_k».proof.Proof.StatsPick
public import Idealize.ShloMosaic.Lib.Pipeline.ValueKit
public import Idealize.ShloMosaic.Lib.Pointwise
public import Idealize.ShloMosaic.Lib.Claim

@[expose] public section

set_option maxRecDepth 16384

noncomputable section

namespace Cert.StatsIdeal.Val

open Cert.StatsIdeal Cert.StatsIdeal.Gen Idealize.ShloMosaic Idealize.ShloMosaic.TcCoe Idealize.SL.Sem
open Idealize.ShloMosaic.Pipeline (Dat)
open Cert.StatsSpec

variable (m : (ℓ : Loc nD τ sig) → Buf (Elt Ideal) ℓ)

theorem points : cfg0.N = 167 := by decide +kernel

/-- A later point is not the first. -/
theorem later {s : ℕ} (hs : s + 1 < cfg0.N) : ¬ (s + 1) % 167 = 0 := by
  rw [points] at hs
  omega

/-- A block's logit is the policy's logit of the block's column. -/
theorem logit_at (c : Dev nD) (t : Fin cfg0.N) (r : Fin 2048) (v : Fin 768) (l : Fin 128) :
    KZ (iblk m c 0 t) (iblk m c 2 t) (iblk m c 4 t) (iblk m c 6 t) r v l = logit (m ((c : Thread nD τ).loc main_arg0)) (m ((c : Thread nD τ).loc main_arg2)) (m ((c : Thread nD τ).loc main_arg4)) (m ((c : Thread nD τ).loc main_arg6)) r ⟨t.val * 768 + v, col_lt t v⟩ := by
  unfold KZ logit
  rw [read4 m c t, read6 m c t]
  simp only [read0 m c t, read2 m c t]
  rw [mul_right_comm]
  exact (mul_assoc _ _ _).symm

/-- The policy's logits of a row's lane by number. -/
abbrev x (c : Dev nD) (r : Fin 2048) (l : Fin 128) : ℕ → EReal := ext (lane (m ((c : Thread nD τ).loc main_arg0)) (m ((c : Thread nD τ).loc main_arg2)) (m ((c : Thread nD τ).loc main_arg4)) (m ((c : Thread nD τ).loc main_arg6)) r l)

/-- Chunk `k` of a point's block holds the lane's logit number `6 t + k`. -/
theorem chunk (c : Dev nD) (t : Fin cfg0.N) (s : ℕ) (e : t.val = s) (r : Fin 2048) (l : Fin 128) (k : ℕ) (v : Fin 768) (hk : k < 6)
    (hv : (v : ℕ) = k * 128 + l) : KZ (iblk m c 0 t) (iblk m c 2 t) (iblk m c 4 t) (iblk m c 6 t) r v l = x m c r l (6 * s + k) := by
  subst e
  have ht := t.isLt
  simp only [points] at ht
  rw [logit_at]
  refine Eq.trans ?_ (dif_pos (show 6 * t.val + k < 1002 by omega)).symm
  exact congrArg (logit (m ((c : Thread nD τ).loc main_arg0)) (m ((c : Thread nD τ).loc main_arg2)) (m ((c : Thread nD τ).loc main_arg4)) (m ((c : Thread nD τ).loc main_arg6)) r) (Fin.ext (by show t.val * 768 + v.val = (6 * t.val + k) * 128 + l.val; omega))

/-- A block's logit is the reference model's logit of the block's column. -/
theorem logitr_at (c : Dev nD) (t : Fin cfg0.N) (r : Fin 2048) (v : Fin 768) (l : Fin 128) :
    KZ (iblk m c 1 t) (iblk m c 3 t) (iblk m c 5 t) (iblk m c 7 t) r v l = logit (m ((c : Thread nD τ).loc main_arg1)) (m ((c : Thread nD τ).loc main_arg3)) (m ((c : Thread nD τ).loc main_arg5)) (m ((c : Thread nD τ).loc main_arg7)) r ⟨t.val * 768 + v, col_lt t v⟩ := by
  unfold KZ logit
  rw [read5 m c t, read7 m c t]
  simp only [read1 m c t, read3 m c t]
  rw [mul_right_comm]
  exact (mul_assoc _ _ _).symm

/-- The reference model's logits of a row's lane by number. -/
abbrev xr (c : Dev nD) (r : Fin 2048) (l : Fin 128) : ℕ → EReal := ext (lane (m ((c : Thread nD τ).loc main_arg1)) (m ((c : Thread nD τ).loc main_arg3)) (m ((c : Thread nD τ).loc main_arg5)) (m ((c : Thread nD τ).loc main_arg7)) r l)

/-- Chunk `k` of a point's block holds the lane's logit number `6 t + k`. -/
theorem chunkr (c : Dev nD) (t : Fin cfg0.N) (s : ℕ) (e : t.val = s) (r : Fin 2048) (l : Fin 128) (k : ℕ) (v : Fin 768) (hk : k < 6)
    (hv : (v : ℕ) = k * 128 + l) : KZ (iblk m c 1 t) (iblk m c 3 t) (iblk m c 5 t) (iblk m c 7 t) r v l = xr m c r l (6 * s + k) := by
  subst e
  have ht := t.isLt
  simp only [points] at ht
  rw [logitr_at]
  refine Eq.trans ?_ (dif_pos (show 6 * t.val + k < 1002 by omega)).symm
  exact congrArg (logit (m ((c : Thread nD τ).loc main_arg1)) (m ((c : Thread nD τ).loc main_arg3)) (m ((c : Thread nD τ).loc main_arg5)) (m ((c : Thread nD τ).loc main_arg7)) r) (Fin.ext (by show t.val * 768 + v.val = (6 * t.val + k) * 128 + l.val; omega))

/-- The policy's running maximum after a point covers the lane's logits up to the point's last. -/
theorem m_run (c : Dev nD) (s : ℕ) (hs : s < cfg0.N) (r : Fin 2048) (l : Fin 128) :
    (outsAt0 m c s hs).2.1 (ix2 r l) = Mx low (x m c r l) (6 * s + 6) := by
  induction s with
  | zero =>
    exact (mA m c ⟨0, hs⟩ rfl (ix2 r l)).trans (RM_step (chunk m c ⟨0, hs⟩ 0 rfl r l) rfl)
  | succ s ih =>
    have ih := ih (Nat.lt_of_succ_lt hs)
    exact (mB m c ⟨s + 1, hs⟩ (later hs) (ix2 r l)).trans (RM_step (chunk m c ⟨s + 1, hs⟩ (s + 1) rfl r l) ih)

/-- The reference model's running maximum after a point covers the lane's logits up to the point's last. -/
theorem mr_run (c : Dev nD) (s : ℕ) (hs : s < cfg0.N) (r : Fin 2048) (l : Fin 128) :
    (outsAt0 m c s hs).2.2.2.2.2.1 (ix2 r l) = Mx low (xr m c r l) (6 * s + 6) := by
  induction s with
  | zero =>
    exact (mrA m c ⟨0, hs⟩ rfl (ix2 r l)).trans (RM_step (chunkr m c ⟨0, hs⟩ 0 rfl r l) rfl)
  | succ s ih =>
    have ih := ih (Nat.lt_of_succ_lt hs)
    exact (mrB m c ⟨s + 1, hs⟩ (later hs) (ix2 r l)).trans (RM_step (chunkr m c ⟨s + 1, hs⟩ (s + 1) rfl r l) ih)

/-- The policy's running mass after a point covers the lane's logits up to the point's last. -/
theorem l_run (c : Dev nD) (s : ℕ) (hs : s < cfg0.N) (r : Fin 2048) (l : Fin 128) :
    (outsAt0 m c s hs).2.2.1 (ix2 r l) = ∑ i ∈ Finset.range (6 * s + 6), Ideal.exp2 (x m c r l i - Mx low (x m c r l) (6 * s + 6)) := by
  induction s with
  | zero =>
    exact (lA m c ⟨0, hs⟩ rfl (ix2 r l)).trans (RL_step (chunk m c ⟨0, hs⟩ 0 rfl r l) low_ne rfl (Finset.sum_range_zero _).symm)
  | succ s ih =>
    have ih := ih (Nat.lt_of_succ_lt hs)
    exact (lB m c ⟨s + 1, hs⟩ (later hs) (ix2 r l)).trans (RL_step (chunk m c ⟨s + 1, hs⟩ (s + 1) rfl r l) low_ne (m_run m c s _ r l) ih)

/-- The reference model's running mass after a point covers the lane's logits up to the point's last. -/
theorem lr_run (c : Dev nD) (s : ℕ) (hs : s < cfg0.N) (r : Fin 2048) (l : Fin 128) :
    (outsAt0 m c s hs).2.2.2.2.2.2.1 (ix2 r l) = ∑ i ∈ Finset.range (6 * s + 6), Ideal.exp2 (xr m c r l i - Mx low (xr m c r l) (6 * s + 6)) := by
  induction s with
  | zero =>
    exact (lrA m c ⟨0, hs⟩ rfl (ix2 r l)).trans (RL_step (chunkr m c ⟨0, hs⟩ 0 rfl r l) low_ne rfl (Finset.sum_range_zero _).symm)
  | succ s ih =>
    have ih := ih (Nat.lt_of_succ_lt hs)
    exact (lrB m c ⟨s + 1, hs⟩ (later hs) (ix2 r l)).trans (RL_step (chunkr m c ⟨s + 1, hs⟩ (s + 1) rfl r l) low_ne (mr_run m c s _ r l) ih)

/-- The policy's running weighted mass after a point covers the lane's logits up to the point's last. -/
theorem t_run (c : Dev nD) (s : ℕ) (hs : s < cfg0.N) (r : Fin 2048) (l : Fin 128) :
    (outsAt0 m c s hs).2.2.2.1 (ix2 r l) = ∑ i ∈ Finset.range (6 * s + 6), Ideal.exp2 (x m c r l i - Mx low (x m c r l) (6 * s + 6)) * x m c r l i := by
  induction s with
  | zero =>
    exact (tA m c ⟨0, hs⟩ rfl (ix2 r l)).trans (RT_step (chunk m c ⟨0, hs⟩ 0 rfl r l) low_ne rfl (Finset.sum_range_zero _).symm)
  | succ s ih =>
    have ih := ih (Nat.lt_of_succ_lt hs)
    exact (tB m c ⟨s + 1, hs⟩ (later hs) (ix2 r l)).trans (RT_step (chunk m c ⟨s + 1, hs⟩ (s + 1) rfl r l) low_ne (m_run m c s _ r l) ih)

/-- The policy's picked logit after a point covers the lane's logits up to the point's last. -/
theorem y_run (c : Dev nD) (s : ℕ) (hs : s < cfg0.N) (r : Fin 2048) (l : Fin 128) :
    (outsAt0 m c s hs).2.2.2.2.1 (ix2 r l) = Yx (fun i => hit ((m ((c : Thread nD τ).loc main_arg8)) (ix1 r)) (i * 128 + l)) (x m c r l) (6 * s + 6) := by
  induction s with
  | zero =>
    refine (yA m c ⟨0, hs⟩ rfl (ix2 r l)).trans (RY_step (chunk m c ⟨0, hs⟩ 0 rfl r l) rfl fun k hk => ?_)
    rw [read8 m c ⟨0, hs⟩, coord]
    exact test_eq _ _ _ _
  | succ s ih =>
    have ih := ih (Nat.lt_of_succ_lt hs)
    refine (yB m c ⟨s + 1, hs⟩ (later hs) (ix2 r l)).trans (RY_step (chunk m c ⟨s + 1, hs⟩ (s + 1) rfl r l) ih fun k hk => ?_)
    rw [read8 m c ⟨s + 1, hs⟩, coord]
    exact test_eq _ _ _ _

/-- The reference model's picked logit after a point covers the lane's logits up to the point's last. -/
theorem yr_run (c : Dev nD) (s : ℕ) (hs : s < cfg0.N) (r : Fin 2048) (l : Fin 128) :
    (outsAt0 m c s hs).2.2.2.2.2.2.2 (ix2 r l) = Yx (fun i => hit ((m ((c : Thread nD τ).loc main_arg8)) (ix1 r)) (i * 128 + l)) (xr m c r l) (6 * s + 6) := by
  induction s with
  | zero =>
    refine (yrA m c ⟨0, hs⟩ rfl (ix2 r l)).trans (RY_step (chunkr m c ⟨0, hs⟩ 0 rfl r l) rfl fun k hk => ?_)
    rw [read8 m c ⟨0, hs⟩, coord]
    exact test_eq _ _ _ _
  | succ s ih =>
    have ih := ih (Nat.lt_of_succ_lt hs)
    refine (yrB m c ⟨s + 1, hs⟩ (later hs) (ix2 r l)).trans (RY_step (chunkr m c ⟨s + 1, hs⟩ (s + 1) rfl r l) ih fun k hk => ?_)
    rw [read8 m c ⟨s + 1, hs⟩, coord]
    exact test_eq _ _ _ _

/-- The kernel's logits are the reference's. -/
theorem final9 (c : Dev nD) : (dats m 0 c).arrAt 9 cfg0.N = LOGITS (m ((c : Thread nD τ).loc main_arg0)) (m ((c : Thread nD τ).loc main_arg2)) (m ((c : Thread nD τ).loc main_arg4)) (m ((c : Thread nD τ).loc main_arg6)) := by
  refine (dats m 0 c).arrAt_eq_of_covers 9 _ (by decide +kernel) fun t hf y => ?_
  have hz : (outsAt0 m c t.val t.isLt).1 y = logit (m ((c : Thread nD τ).loc main_arg0)) (m ((c : Thread nD τ).loc main_arg2)) (m ((c : Thread nD τ).loc main_arg4)) (m ((c : Thread nD τ).loc main_arg6)) (y 0) ⟨t.val * 768 + (y 1 : Fin 768), col_lt t (y 1)⟩ := by
    rw [← logit_at m c t (y 0) (y 1) ⟨(y 1 : Fin 768) % 128, Nat.mod_lt _ (by decide)⟩]
    by_cases h : t.val % 167 = 0
    · exact zA m c t h y
    · exact zB m c t h y
  blk_simp
  rw [after0_9]
  refine hz.trans (congrArg₂ (logit (m ((c : Thread nD τ).loc main_arg0)) (m ((c : Thread nD τ).loc main_arg2)) (m ((c : Thread nD τ).loc main_arg4)) (m ((c : Thread nD τ).loc main_arg6))) (Fin.ext ?_) (Fin.ext ?_))
  · exact ((Pipeline.Window.rect_emb_val win0_9 t y 0 rfl).trans (by rw [(idx t).2.2.2.2.2.2.2.2.2.1]; simp)).symm
  · exact ((Pipeline.Window.rect_emb_val win0_9 t y 1 rfl).trans (by rw [(idx t).2.2.2.2.2.2.2.2.2.1]; rfl)).symm

/-- The kernel's policy maxima are the reference's. -/
theorem final10 (c : Dev nD) : (dats m 0 c).arrAt 10 cfg0.N = TOPS (m ((c : Thread nD τ).loc main_arg0)) (m ((c : Thread nD τ).loc main_arg2)) (m ((c : Thread nD τ).loc main_arg4)) (m ((c : Thread nD τ).loc main_arg6)) := by
  refine (dats m 0 c).arrAt_eq_of_covers 10 _ (by decide +kernel) fun t hf y => ?_
  have e0 : (win0_10.blk t).view.emb y 0 = y 0 :=
    Fin.ext ((Pipeline.Window.rect_emb_val win0_10 t y 0 rfl).trans (by rw [(idx t).2.2.2.2.2.2.2.2.2.2.1]; simp))
  have e1 : (win0_10.blk t).view.emb y 1 = y 1 :=
    Fin.ext ((Pipeline.Window.rect_emb_val win0_10 t y 1 rfl).trans (by rw [(idx t).2.2.2.2.2.2.2.2.2.2.1]; simp))
  have ht : 6 * t.val + 6 = 1002 := by
    have := (flush0_10 t).mp hf
    have h : t.val < 167 := lt_of_lt_of_eq t.isLt points
    omega
  have hr := m_run m c t.val t.isLt (y 0) (y 1)
  rw [ht] at hr
  blk_simp
  rw [after0_10]
  refine ((congrArg _ (show y = ix2 (y 0) (y 1) by blk_ext)).trans hr).trans ((top_eq _).trans ?_)
  rw [← e0, ← e1]
  rfl

/-- The kernel's policy sums are the reference's. -/
theorem final11 (c : Dev nD) : (dats m 0 c).arrAt 11 cfg0.N = MASSES (m ((c : Thread nD τ).loc main_arg0)) (m ((c : Thread nD τ).loc main_arg2)) (m ((c : Thread nD τ).loc main_arg4)) (m ((c : Thread nD τ).loc main_arg6)) := by
  refine (dats m 0 c).arrAt_eq_of_covers 11 _ (by decide +kernel) fun t hf y => ?_
  have e0 : (win0_11.blk t).view.emb y 0 = y 0 :=
    Fin.ext ((Pipeline.Window.rect_emb_val win0_11 t y 0 rfl).trans (by rw [(idx t).2.2.2.2.2.2.2.2.2.2.2.1]; simp))
  have e1 : (win0_11.blk t).view.emb y 1 = y 1 :=
    Fin.ext ((Pipeline.Window.rect_emb_val win0_11 t y 1 rfl).trans (by rw [(idx t).2.2.2.2.2.2.2.2.2.2.2.1]; simp))
  have ht : 6 * t.val + 6 = 1002 := by
    have := (flush0_11 t).mp hf
    have h : t.val < 167 := lt_of_lt_of_eq t.isLt points
    omega
  have hr := l_run m c t.val t.isLt (y 0) (y 1)
  rw [ht] at hr
  blk_simp
  rw [after0_11]
  refine ((congrArg _ (show y = ix2 (y 0) (y 1) by blk_ext)).trans hr).trans ((mass_eq _).trans ?_)
  rw [← e0, ← e1]
  rfl

/-- The kernel's weighted policy sums are the reference's. -/
theorem final12 (c : Dev nD) : (dats m 0 c).arrAt 12 cfg0.N = WMASSES (m ((c : Thread nD τ).loc main_arg0)) (m ((c : Thread nD τ).loc main_arg2)) (m ((c : Thread nD τ).loc main_arg4)) (m ((c : Thread nD τ).loc main_arg6)) := by
  refine (dats m 0 c).arrAt_eq_of_covers 12 _ (by decide +kernel) fun t hf y => ?_
  have e0 : (win0_12.blk t).view.emb y 0 = y 0 :=
    Fin.ext ((Pipeline.Window.rect_emb_val win0_12 t y 0 rfl).trans (by rw [(idx t).2.2.2.2.2.2.2.2.2.2.2.2.1]; simp))
  have e1 : (win0_12.blk t).view.emb y 1 = y 1 :=
    Fin.ext ((Pipeline.Window.rect_emb_val win0_12 t y 1 rfl).trans (by rw [(idx t).2.2.2.2.2.2.2.2.2.2.2.2.1]; simp))
  have ht : 6 * t.val + 6 = 1002 := by
    have := (flush0_12 t).mp hf
    have h : t.val < 167 := lt_of_lt_of_eq t.isLt points
    omega
  have hr := t_run m c t.val t.isLt (y 0) (y 1)
  rw [ht] at hr
  blk_simp
  rw [after0_12]
  refine ((congrArg _ (show y = ix2 (y 0) (y 1) by blk_ext)).trans hr).trans ((wmass_eq _).trans ?_)
  rw [← e0, ← e1]
  rfl

/-- The kernel's policy's label logits are the reference's. -/
theorem final13 (c : Dev nD) : (dats m 0 c).arrAt 13 cfg0.N = PICKS (m ((c : Thread nD τ).loc main_arg0)) (m ((c : Thread nD τ).loc main_arg2)) (m ((c : Thread nD τ).loc main_arg4)) (m ((c : Thread nD τ).loc main_arg6)) (m ((c : Thread nD τ).loc main_arg8)) := by
  refine (dats m 0 c).arrAt_eq_of_covers 13 _ (by decide +kernel) fun t hf y => ?_
  have e0 : (win0_13.blk t).view.emb y 0 = y 0 :=
    Fin.ext ((Pipeline.Window.rect_emb_val win0_13 t y 0 rfl).trans (by rw [(idx t).2.2.2.2.2.2.2.2.2.2.2.2.2.1]; simp))
  have e1 : (win0_13.blk t).view.emb y 1 = y 1 :=
    Fin.ext ((Pipeline.Window.rect_emb_val win0_13 t y 1 rfl).trans (by rw [(idx t).2.2.2.2.2.2.2.2.2.2.2.2.2.1]; simp))
  have ht : 6 * t.val + 6 = 1002 := by
    have := (flush0_13 t).mp hf
    have h : t.val < 167 := lt_of_lt_of_eq t.isLt points
    omega
  have hr := y_run m c t.val t.isLt (y 0) (y 1)
  rw [ht] at hr
  blk_simp
  rw [after0_13]
  refine ((congrArg _ (show y = ix2 (y 0) (y 1) by blk_ext)).trans hr).trans ((pick_eq _ _ _).trans ?_)
  rw [← e0, ← e1]
  rfl

/-- The kernel's reference model's maxima are the reference's. -/
theorem final14 (c : Dev nD) : (dats m 0 c).arrAt 14 cfg0.N = TOPS (m ((c : Thread nD τ).loc main_arg1)) (m ((c : Thread nD τ).loc main_arg3)) (m ((c : Thread nD τ).loc main_arg5)) (m ((c : Thread nD τ).loc main_arg7)) := by
  refine (dats m 0 c).arrAt_eq_of_covers 14 _ (by decide +kernel) fun t hf y => ?_
  have e0 : (win0_14.blk t).view.emb y 0 = y 0 :=
    Fin.ext ((Pipeline.Window.rect_emb_val win0_14 t y 0 rfl).trans (by rw [(idx t).2.2.2.2.2.2.2.2.2.2.2.2.2.2.1]; simp))
  have e1 : (win0_14.blk t).view.emb y 1 = y 1 :=
    Fin.ext ((Pipeline.Window.rect_emb_val win0_14 t y 1 rfl).trans (by rw [(idx t).2.2.2.2.2.2.2.2.2.2.2.2.2.2.1]; simp))
  have ht : 6 * t.val + 6 = 1002 := by
    have := (flush0_14 t).mp hf
    have h : t.val < 167 := lt_of_lt_of_eq t.isLt points
    omega
  have hr := mr_run m c t.val t.isLt (y 0) (y 1)
  rw [ht] at hr
  blk_simp
  rw [after0_14]
  refine ((congrArg _ (show y = ix2 (y 0) (y 1) by blk_ext)).trans hr).trans ((top_eq _).trans ?_)
  rw [← e0, ← e1]
  rfl

/-- The kernel's reference model's sums are the reference's. -/
theorem final15 (c : Dev nD) : (dats m 0 c).arrAt 15 cfg0.N = MASSES (m ((c : Thread nD τ).loc main_arg1)) (m ((c : Thread nD τ).loc main_arg3)) (m ((c : Thread nD τ).loc main_arg5)) (m ((c : Thread nD τ).loc main_arg7)) := by
  refine (dats m 0 c).arrAt_eq_of_covers 15 _ (by decide +kernel) fun t hf y => ?_
  have e0 : (win0_15.blk t).view.emb y 0 = y 0 :=
    Fin.ext ((Pipeline.Window.rect_emb_val win0_15 t y 0 rfl).trans (by rw [(idx t).2.2.2.2.2.2.2.2.2.2.2.2.2.2.2.1]; simp))
  have e1 : (win0_15.blk t).view.emb y 1 = y 1 :=
    Fin.ext ((Pipeline.Window.rect_emb_val win0_15 t y 1 rfl).trans (by rw [(idx t).2.2.2.2.2.2.2.2.2.2.2.2.2.2.2.1]; simp))
  have ht : 6 * t.val + 6 = 1002 := by
    have := (flush0_15 t).mp hf
    have h : t.val < 167 := lt_of_lt_of_eq t.isLt points
    omega
  have hr := lr_run m c t.val t.isLt (y 0) (y 1)
  rw [ht] at hr
  blk_simp
  rw [after0_15]
  refine ((congrArg _ (show y = ix2 (y 0) (y 1) by blk_ext)).trans hr).trans ((mass_eq _).trans ?_)
  rw [← e0, ← e1]
  rfl

/-- The kernel's reference model's label logits are the reference's. -/
theorem final16 (c : Dev nD) : (dats m 0 c).arrAt 16 cfg0.N = PICKS (m ((c : Thread nD τ).loc main_arg1)) (m ((c : Thread nD τ).loc main_arg3)) (m ((c : Thread nD τ).loc main_arg5)) (m ((c : Thread nD τ).loc main_arg7)) (m ((c : Thread nD τ).loc main_arg8)) := by
  refine (dats m 0 c).arrAt_eq_of_covers 16 _ (by decide +kernel) fun t hf y => ?_
  have e0 : (win0_16.blk t).view.emb y 0 = y 0 :=
    Fin.ext ((Pipeline.Window.rect_emb_val win0_16 t y 0 rfl).trans (by rw [(idx t).2.2.2.2.2.2.2.2.2.2.2.2.2.2.2.2]; simp))
  have e1 : (win0_16.blk t).view.emb y 1 = y 1 :=
    Fin.ext ((Pipeline.Window.rect_emb_val win0_16 t y 1 rfl).trans (by rw [(idx t).2.2.2.2.2.2.2.2.2.2.2.2.2.2.2.2]; simp))
  have ht : 6 * t.val + 6 = 1002 := by
    have := (flush0_16 t).mp hf
    have h : t.val < 167 := lt_of_lt_of_eq t.isLt points
    omega
  have hr := yr_run m c t.val t.isLt (y 0) (y 1)
  rw [ht] at hr
  blk_simp
  rw [after0_16]
  refine ((congrArg _ (show y = ix2 (y 0) (y 1) by blk_ext)).trans hr).trans ((pick_eq _ _ _).trans ?_)
  rw [← e0, ← e1]
  rfl

end Cert.StatsIdeal.Val

end
-- ==== Proof.StatsRefPays.lean ====
/- The values the reference of the statistics computes, element by element. -/
module

public import proofs.«01_k».proof.Proof.Gen.StatsRefIdeal.Frame
public import proofs.«01_k».proof.Proof.StatsSpec
public import Idealize.ShloMosaic.Lib.Pipeline.ValueKit
public import Idealize.ShloMosaic.Lib.Pointwise
public import Idealize.ShloMosaic.Lib.Claim

@[expose] public section

set_option maxRecDepth 16384

noncomputable section

namespace Cert.StatsRefIdeal.Val

open Cert.StatsRefIdeal Cert.StatsRefIdeal.Gen Idealize.ShloMosaic Idealize.ShloMosaic.TcCoe Idealize.SL.Sem
open Cert.StatsSpec

/-- A maximum over the middle axis, not below a constant. -/
theorem max_lanes {n0 n1 n2 : ℕ} (src : FVec Ideal ⟨3, ![n0, n1, n2]⟩ .f32) (h : (⟨3, ![n0, n1, n2]⟩ : Shape).Reduces [1] ⟨2, ![n0, n2]⟩)
    (hφ : FKind.Formats .f32) (hacc : 0xFF800000#32 = FKind.maximumf.neutral .f32 hφ) (c : Ideal .f32) (r : Fin n0) (l : Fin n2) :
    maximumf (multiReduction .maximumf [1] ⟨2, ![n0, n2]⟩ src 0xFF800000#32 h hφ hacc) (broadcast ⟨2, ![n0, n2]⟩ c) (ix2 r l)
      = max (Finset.univ.fold max ⊥ fun j : Fin n1 => src (ix3 r j l)) c := by
  pointwise
  rw [show Ideal.ofBits FTy.f32 4286578688#32 = ⊥ by simp [Ideal.ofBits, Ideal.ieee]]

/-- The label test. -/
theorem pay1_at (v1 : Vec Ideal S2048x1 .i32) (r : Fin 2048) (v : Fin 128256) : k0_pay1 (F := Ideal) v1 (ix2 r v) = hit (v1 (ix2 r 0)) v := by
  pointwise [k0_pay1, hit]

/-- One logit. -/
theorem pay2_at (v5 : Vec Ideal S2048x3072 .fp8e4m3) (v6 : Vec Ideal S128256x3072 .fp8e4m3) (v8 : Vec Ideal S2048x1 .f32) (v12 : Vec Ideal S1x128256 .f32) (r : Fin 2048) (v : Fin 128256) :
    k0_pay2 (F := Ideal) v5 v6 v8 v12 (ix2 r v) = (∑ k : Fin 3072, v5 (ix2 r k) * v6 (ix2 v k)) * v8 (ix2 r 0) * v12 (ix2 0 v) * Ideal.ofBits FTy.f32 1072092362#32 := by
  pointwise [k0_pay2]

/-- The logits by lanes. -/
theorem pay3_at (v5 : Vec Ideal S2048x3072 .fp8e4m3) (v6 : Vec Ideal S128256x3072 .fp8e4m3) (v8 : Vec Ideal S2048x1 .f32) (v12 : Vec Ideal S1x128256 .f32) (r : Fin 2048) (j : Fin 1002) (l : Fin 128) :
    k0_pay3 (F := Ideal) v5 v6 v8 v12 (ix3 r j l) = k0_pay2 (F := Ideal) v5 v6 v8 v12 (ix2 r (col j l)) := by
  unfold k0_pay3
  generalize k0_pay2 (F := Ideal) v5 v6 v8 v12 = z
  pointwise [col]

/-- The lane maximum. -/
theorem pay4_at (v5 : Vec Ideal S2048x3072 .fp8e4m3) (v6 : Vec Ideal S128256x3072 .fp8e4m3) (v8 : Vec Ideal S2048x1 .f32) (v12 : Vec Ideal S1x128256 .f32) (r : Fin 2048) (l : Fin 128) :
    k0_pay4 (F := Ideal) v5 v6 v8 v12 (ix2 r l) = top fun j => k0_pay3 (F := Ideal) v5 v6 v8 v12 (ix3 r j l) := by
  unfold k0_pay4 top
  generalize k0_pay3 (F := Ideal) v5 v6 v8 v12 = z
  dsimp only
  exact max_lanes z reduces_S2048x1002x128_S2048x128 (.inl rfl) rfl (Scalar.ofBits .f32 0xF149F2CA#32) r l

/-- A power of two. -/
theorem pay5_at (v5 : Vec Ideal S2048x3072 .fp8e4m3) (v6 : Vec Ideal S128256x3072 .fp8e4m3) (v8 : Vec Ideal S2048x1 .f32) (v12 : Vec Ideal S1x128256 .f32) (r : Fin 2048) (j : Fin 1002) (l : Fin 128) :
    k0_pay5 (F := Ideal) v5 v6 v8 v12 (ix3 r j l) = Ideal.exp2 (k0_pay3 (F := Ideal) v5 v6 v8 v12 (ix3 r j l) - k0_pay4 (F := Ideal) v5 v6 v8 v12 (ix2 r l)) := by
  unfold k0_pay5
  generalize k0_pay3 (F := Ideal) v5 v6 v8 v12 = z
  generalize k0_pay4 (F := Ideal) v5 v6 v8 v12 = w
  pointwise
  rfl

/-- The label's logit. -/
theorem pay6_at (v1 : Vec Ideal S2048x1 .i32) (v5 : Vec Ideal S2048x3072 .fp8e4m3) (v6 : Vec Ideal S128256x3072 .fp8e4m3) (v8 : Vec Ideal S2048x1 .f32) (v12 : Vec Ideal S1x128256 .f32) (r : Fin 2048) (l : Fin 128) :
    k0_pay6 (F := Ideal) v1 v5 v6 v8 v12 (ix2 r l) = ∑ j : Fin 1002, Scalar.select (k0_pay1 (F := Ideal) v1 (ix2 r (col j l))) (k0_pay2 (F := Ideal) v5 v6 v8 v12 (ix2 r (col j l))) 0 := by
  unfold k0_pay6
  generalize k0_pay2 (F := Ideal) v5 v6 v8 v12 = z
  generalize k0_pay1 (F := Ideal) v1 = h
  pointwise [col]

/-- The sum of a lane's powers. -/
theorem pay7_at (v5 : Vec Ideal S2048x3072 .fp8e4m3) (v6 : Vec Ideal S128256x3072 .fp8e4m3) (v8 : Vec Ideal S2048x1 .f32) (v12 : Vec Ideal S1x128256 .f32) (r : Fin 2048) (l : Fin 128) :
    k0_pay7 (F := Ideal) v5 v6 v8 v12 (ix2 r l) = ∑ j : Fin 1002, k0_pay5 (F := Ideal) v5 v6 v8 v12 (ix3 r j l) := by
  unfold k0_pay7
  generalize k0_pay5 (F := Ideal) v5 v6 v8 v12 = z
  pointwise

/-- The weighted sum of a lane's powers. -/
theorem pay8_at (v5 : Vec Ideal S2048x3072 .fp8e4m3) (v6 : Vec Ideal S128256x3072 .fp8e4m3) (v8 : Vec Ideal S2048x1 .f32) (v12 : Vec Ideal S1x128256 .f32) (r : Fin 2048) (l : Fin 128) :
    k0_pay8 (F := Ideal) v5 v6 v8 v12 (ix2 r l) = ∑ j : Fin 1002, k0_pay5 (F := Ideal) v5 v6 v8 v12 (ix3 r j l) * k0_pay3 (F := Ideal) v5 v6 v8 v12 (ix3 r j l) := by
  unfold k0_pay8
  generalize k0_pay5 (F := Ideal) v5 v6 v8 v12 = z
  generalize k0_pay3 (F := Ideal) v5 v6 v8 v12 = w
  pointwise

/-- The second model's values are the same functions of its operands. -/
theorem pay9_eq : k0_pay9 (F := Ideal) = k0_pay2 (F := Ideal) := rfl
theorem pay10_eq : k0_pay10 (F := Ideal) = k0_pay3 (F := Ideal) := rfl
theorem pay11_eq : k0_pay11 (F := Ideal) = k0_pay4 (F := Ideal) := rfl
theorem pay12_eq (v1 : Vec Ideal S2048x1 .i32) : k0_pay12 (F := Ideal) (k0_pay1 (F := Ideal) v1) = k0_pay6 (F := Ideal) v1 := rfl
theorem pay13_eq : k0_pay13 (F := Ideal) = k0_pay7 (F := Ideal) := rfl

end Cert.StatsRefIdeal.Val

end
-- ==== Proof.StatsRefValue.lean ====
/- The arrays the reference of the statistics leaves. -/
module

public import proofs.«01_k».proof.Proof.Gen.StatsRefIdeal.Frame
public import proofs.«01_k».proof.Proof.StatsRefPays
public import Idealize.ShloMosaic.Lib.Pipeline.ValueKit
public import Idealize.ShloMosaic.Lib.Pointwise
public import Idealize.ShloMosaic.Lib.Claim

@[expose] public section

set_option maxRecDepth 16384

noncomputable section

namespace Cert.StatsRefIdeal.Val

open Cert.StatsRefIdeal Cert.StatsRefIdeal.Gen Idealize.ShloMosaic Idealize.ShloMosaic.TcCoe Idealize.SL.Sem
open Idealize.ShloMosaic.Pipeline (Dat)
open Cert.StatsSpec

section

variable (X : Vec Ideal S2048x3072 .fp8e4m3) (W : Vec Ideal S128256x3072 .fp8e4m3) (sx : Vec Ideal S2048x1 .f32) (s : Vec Ideal S1x128256 .f32)
  (X' : FVec Ideal ⟨2, ![2048, 3072]⟩ .fp8e4m3) (W' : FVec Ideal ⟨2, ![128256, 3072]⟩ .fp8e4m3) (S' : FVec Ideal ⟨1, ![128256]⟩ .f32) (SX' : FVec Ideal ⟨1, ![2048]⟩ .f32)
  (hX : ∀ r k, X (ix2 r k) = X' (ix2 r k)) (hW : ∀ v k, W (ix2 v k) = W' (ix2 v k)) (hsx : ∀ r, sx (ix2 r 0) = SX' (ix1 r))
  (hs : ∀ v, s (ix2 0 v) = S' (ix1 v))

include hX hW hsx hs

/-- The logits are those of the argument arrays. -/
theorem logit_at (r : Fin 2048) (v : Fin 128256) : k0_pay2 (F := Ideal) X W sx s (ix2 r v) = logit X' W' S' SX' r v := by
  rw [pay2_at, hsx, hs]
  simp only [hX, hW]
  rfl

/-- The logits of a lane. -/
theorem lane_at (r : Fin 2048) (l : Fin 128) (j : Fin 1002) : k0_pay3 (F := Ideal) X W sx s (ix3 r j l) = lane X' W' S' SX' r l j := by
  rw [pay3_at, logit_at X W sx s X' W' S' SX' hX hW hsx hs]
  rfl

/-- The maximum of a lane. -/
theorem top_at (r : Fin 2048) (l : Fin 128) : k0_pay4 (F := Ideal) X W sx s (ix2 r l) = top (lane X' W' S' SX' r l) := by
  rw [pay4_at]
  exact congrArg top (funext fun j => lane_at X W sx s X' W' S' SX' hX hW hsx hs r l j)

/-- A power of two of a lane. -/
theorem exp_at (r : Fin 2048) (l : Fin 128) (j : Fin 1002) :
    k0_pay5 (F := Ideal) X W sx s (ix3 r j l) = Ideal.exp2 (lane X' W' S' SX' r l j - top (lane X' W' S' SX' r l)) := by
  rw [pay5_at, lane_at X W sx s X' W' S' SX' hX hW hsx hs, top_at X W sx s X' W' S' SX' hX hW hsx hs]

/-- The sum of a lane's powers. -/
theorem mass_at (r : Fin 2048) (l : Fin 128) : k0_pay7 (F := Ideal) X W sx s (ix2 r l) = mass (lane X' W' S' SX' r l) := by
  rw [pay7_at]
  exact Finset.sum_congr rfl fun j _ => exp_at X W sx s X' W' S' SX' hX hW hsx hs r l j

/-- The weighted sum of a lane's powers. -/
theorem wmass_at (r : Fin 2048) (l : Fin 128) : k0_pay8 (F := Ideal) X W sx s (ix2 r l) = wmass (lane X' W' S' SX' r l) := by
  rw [pay8_at]
  exact Finset.sum_congr rfl fun j _ => by
    rw [exp_at X W sx s X' W' S' SX' hX hW hsx hs, lane_at X W sx s X' W' S' SX' hX hW hsx hs]

/-- The label's logit in a lane. -/
theorem pick_at (lab : Vec Ideal S2048x1 .i32) (LAB : IVec ⟨1, ![2048]⟩ 32) (hl : ∀ r, lab (ix2 r 0) = LAB (ix1 r)) (r : Fin 2048) (l : Fin 128) :
    k0_pay6 (F := Ideal) lab X W sx s (ix2 r l) = pick (LAB (ix1 r)) l (lane X' W' S' SX' r l) := by
  rw [pay6_at]
  exact Finset.sum_congr rfl fun j _ => by
    rw [pay1_at, logit_at X W sx s X' W' S' SX' hX hW hsx hs, hl]
    rfl

end

variable (m : (ℓ : Loc nD τ sig) → Buf (Elt Ideal) ℓ)

/-- The block index of every window. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0] :=
  (by decide +kernel : ∀ t : Fin grid0.N, _)

theorem read0 (c : Dev nD) (t : Fin cfg0.N) (r : Fin 2048) (k : Fin 3072) : iblk m c 0 t (ix2 r k) = (m ((c : Thread nD τ).loc main_arg0)) (ix2 r k) := by
  blk_point [iblk, V, idx t]

theorem read1 (c : Dev nD) (t : Fin cfg0.N) (r : Fin 2048) (k : Fin 3072) : iblk m c 1 t (ix2 r k) = (m ((c : Thread nD τ).loc main_arg1)) (ix2 r k) := by
  blk_point [iblk, V, idx t]

theorem read2 (c : Dev nD) (t : Fin cfg0.N) (v : Fin 128256) (k : Fin 3072) : iblk m c 2 t (ix2 v k) = (m ((c : Thread nD τ).loc main_arg2)) (ix2 v k) := by
  blk_point [iblk, V, idx t]

theorem read3 (c : Dev nD) (t : Fin cfg0.N) (v : Fin 128256) (k : Fin 3072) : iblk m c 3 t (ix2 v k) = (m ((c : Thread nD τ).loc main_arg3)) (ix2 v k) := by
  blk_point [iblk, V, idx t]

theorem read4 (c : Dev nD) (t : Fin cfg0.N) (v : Fin 128256) : iblk m c 4 t (ix2 0 v) = (m ((c : Thread nD τ).loc main_arg4)) (ix1 v) := by
  blk_point [iblk, V, idx t]

theorem read5 (c : Dev nD) (t : Fin cfg0.N) (v : Fin 128256) : iblk m c 5 t (ix2 0 v) = (m ((c : Thread nD τ).loc main_arg5)) (ix1 v) := by
  blk_point [iblk, V, idx t]

theorem read6 (c : Dev nD) (t : Fin cfg0.N) (r : Fin 2048) : iblk m c 6 t (ix2 r 0) = (m ((c : Thread nD τ).loc main_arg6)) (ix1 r) := by
  blk_point [iblk, V, idx t]

theorem read7 (c : Dev nD) (t : Fin cfg0.N) (r : Fin 2048) : iblk m c 7 t (ix2 r 0) = (m ((c : Thread nD τ).loc main_arg7)) (ix1 r) := by
  blk_point [iblk, V, idx t]

theorem read8 (c : Dev nD) (t : Fin cfg0.N) (r : Fin 2048) : iblk m c 8 t (ix2 r 0) = (m ((c : Thread nD τ).loc main_arg8)) (ix1 r) := by
  blk_point [iblk, V, idx t]

set_option maxHeartbeats 4000000 in
/-- The reference's logits. -/
theorem final9 (c : Dev nD) : (dats m 0 c).arrAt 9 cfg0.N = LOGITS (m ((c : Thread nD τ).loc main_arg0)) (m ((c : Thread nD τ).loc main_arg2)) (m ((c : Thread nD τ).loc main_arg4)) (m ((c : Thread nD τ).loc main_arg6)) := by
  refine (dats m 0 c).arrAt_eq_of_covers 9 _ (by decide +kernel) fun t hf y => ?_
  have e0 : (win0_9.blk t).view.emb y 0 = y 0 :=
    Fin.ext ((Pipeline.Window.rect_emb_val win0_9 t y 0 rfl).trans (by rw [(idx t).2.2.2.2.2.2.2.2.2.1]; simp))
  have e1 : (win0_9.blk t).view.emb y 1 = y 1 :=
    Fin.ext ((Pipeline.Window.rect_emb_val win0_9 t y 1 rfl).trans (by rw [(idx t).2.2.2.2.2.2.2.2.2.1]; simp))
  blk_simp
  rw [after0_9]
  frame_out
  refine ((congrArg _ (show y = ix2 (y 0) (y 1) by blk_ext)).trans
    (logit_at (iblk m c 0 t) (iblk m c 2 t) (iblk m c 6 t) (iblk m c 4 t) (m ((c : Thread nD τ).loc main_arg0)) (m ((c : Thread nD τ).loc main_arg2)) (m ((c : Thread nD τ).loc main_arg4)) (m ((c : Thread nD τ).loc main_arg6)) (read0 m c t) (read2 m c t) (read6 m c t) (read4 m c t) (y 0) (y 1))).trans ?_
  rw [← e0, ← e1]
  rfl

set_option maxHeartbeats 4000000 in
/-- The reference's policy maxima. -/
theorem final10 (c : Dev nD) : (dats m 0 c).arrAt 10 cfg0.N = TOPS (m ((c : Thread nD τ).loc main_arg0)) (m ((c : Thread nD τ).loc main_arg2)) (m ((c : Thread nD τ).loc main_arg4)) (m ((c : Thread nD τ).loc main_arg6)) := by
  refine (dats m 0 c).arrAt_eq_of_covers 10 _ (by decide +kernel) fun t hf y => ?_
  have e0 : (win0_10.blk t).view.emb y 0 = y 0 :=
    Fin.ext ((Pipeline.Window.rect_emb_val win0_10 t y 0 rfl).trans (by rw [(idx t).2.2.2.2.2.2.2.2.2.2.1]; simp))
  have e1 : (win0_10.blk t).view.emb y 1 = y 1 :=
    Fin.ext ((Pipeline.Window.rect_emb_val win0_10 t y 1 rfl).trans (by rw [(idx t).2.2.2.2.2.2.2.2.2.2.1]; simp))
  blk_simp
  rw [after0_10]
  frame_out
  refine ((congrArg _ (show y = ix2 (y 0) (y 1) by blk_ext)).trans
    (top_at (iblk m c 0 t) (iblk m c 2 t) (iblk m c 6 t) (iblk m c 4 t) (m ((c : Thread nD τ).loc main_arg0)) (m ((c : Thread nD τ).loc main_arg2)) (m ((c : Thread nD τ).loc main_arg4)) (m ((c : Thread nD τ).loc main_arg6)) (read0 m c t) (read2 m c t) (read6 m c t) (read4 m c t) (y 0) (y 1))).trans ?_
  rw [← e0, ← e1]
  rfl

set_option maxHeartbeats 4000000 in
/-- The reference's policy sums. -/
theorem final11 (c : Dev nD) : (dats m 0 c).arrAt 11 cfg0.N = MASSES (m ((c : Thread nD τ).loc main_arg0)) (m ((c : Thread nD τ).loc main_arg2)) (m ((c : Thread nD τ).loc main_arg4)) (m ((c : Thread nD τ).loc main_arg6)) := by
  refine (dats m 0 c).arrAt_eq_of_covers 11 _ (by decide +kernel) fun t hf y => ?_
  have e0 : (win0_11.blk t).view.emb y 0 = y 0 :=
    Fin.ext ((Pipeline.Window.rect_emb_val win0_11 t y 0 rfl).trans (by rw [(idx t).2.2.2.2.2.2.2.2.2.2.2.1]; simp))
  have e1 : (win0_11.blk t).view.emb y 1 = y 1 :=
    Fin.ext ((Pipeline.Window.rect_emb_val win0_11 t y 1 rfl).trans (by rw [(idx t).2.2.2.2.2.2.2.2.2.2.2.1]; simp))
  blk_simp
  rw [after0_11]
  frame_out
  refine ((congrArg _ (show y = ix2 (y 0) (y 1) by blk_ext)).trans
    (mass_at (iblk m c 0 t) (iblk m c 2 t) (iblk m c 6 t) (iblk m c 4 t) (m ((c : Thread nD τ).loc main_arg0)) (m ((c : Thread nD τ).loc main_arg2)) (m ((c : Thread nD τ).loc main_arg4)) (m ((c : Thread nD τ).loc main_arg6)) (read0 m c t) (read2 m c t) (read6 m c t) (read4 m c t) (y 0) (y 1))).trans ?_
  rw [← e0, ← e1]
  rfl

set_option maxHeartbeats 4000000 in
/-- The reference's weighted policy sums. -/
theorem final12 (c : Dev nD) : (dats m 0 c).arrAt 12 cfg0.N = WMASSES (m ((c : Thread nD τ).loc main_arg0)) (m ((c : Thread nD τ).loc main_arg2)) (m ((c : Thread nD τ).loc main_arg4)) (m ((c : Thread nD τ).loc main_arg6)) := by
  refine (dats m 0 c).arrAt_eq_of_covers 12 _ (by decide +kernel) fun t hf y => ?_
  have e0 : (win0_12.blk t).view.emb y 0 = y 0 :=
    Fin.ext ((Pipeline.Window.rect_emb_val win0_12 t y 0 rfl).trans (by rw [(idx t).2.2.2.2.2.2.2.2.2.2.2.2.1]; simp))
  have e1 : (win0_12.blk t).view.emb y 1 = y 1 :=
    Fin.ext ((Pipeline.Window.rect_emb_val win0_12 t y 1 rfl).trans (by rw [(idx t).2.2.2.2.2.2.2.2.2.2.2.2.1]; simp))
  blk_simp
  rw [after0_12]
  frame_out
  refine ((congrArg _ (show y = ix2 (y 0) (y 1) by blk_ext)).trans
    (wmass_at (iblk m c 0 t) (iblk m c 2 t) (iblk m c 6 t) (iblk m c 4 t) (m ((c : Thread nD τ).loc main_arg0)) (m ((c : Thread nD τ).loc main_arg2)) (m ((c : Thread nD τ).loc main_arg4)) (m ((c : Thread nD τ).loc main_arg6)) (read0 m c t) (read2 m c t) (read6 m c t) (read4 m c t) (y 0) (y 1))).trans ?_
  rw [← e0, ← e1]
  rfl

set_option maxHeartbeats 4000000 in
/-- The reference's policy's label logits. -/
theorem final13 (c : Dev nD) : (dats m 0 c).arrAt 13 cfg0.N = PICKS (m ((c : Thread nD τ).loc main_arg0)) (m ((c : Thread nD τ).loc main_arg2)) (m ((c : Thread nD τ).loc main_arg4)) (m ((c : Thread nD τ).loc main_arg6)) (m ((c : Thread nD τ).loc main_arg8)) := by
  refine (dats m 0 c).arrAt_eq_of_covers 13 _ (by decide +kernel) fun t hf y => ?_
  have e0 : (win0_13.blk t).view.emb y 0 = y 0 :=
    Fin.ext ((Pipeline.Window.rect_emb_val win0_13 t y 0 rfl).trans (by rw [(idx t).2.2.2.2.2.2.2.2.2.2.2.2.2.1]; simp))
  have e1 : (win0_13.blk t).view.emb y 1 = y 1 :=
    Fin.ext ((Pipeline.Window.rect_emb_val win0_13 t y 1 rfl).trans (by rw [(idx t).2.2.2.2.2.2.2.2.2.2.2.2.2.1]; simp))
  blk_simp
  rw [after0_13]
  frame_out
  refine ((congrArg _ (show y = ix2 (y 0) (y 1) by blk_ext)).trans
    (pick_at (iblk m c 0 t) (iblk m c 2 t) (iblk m c 6 t) (iblk m c 4 t) (m ((c : Thread nD τ).loc main_arg0)) (m ((c : Thread nD τ).loc main_arg2)) (m ((c : Thread nD τ).loc main_arg4)) (m ((c : Thread nD τ).loc main_arg6)) (read0 m c t) (read2 m c t) (read6 m c t) (read4 m c t) (iblk m c 8 t) (m ((c : Thread nD τ).loc main_arg8)) (read8 m c t) (y 0) (y 1))).trans ?_
  rw [← e0, ← e1]
  rfl

set_option maxHeartbeats 4000000 in
/-- The reference's reference model's maxima. -/
theorem final14 (c : Dev nD) : (dats m 0 c).arrAt 14 cfg0.N = TOPS (m ((c : Thread nD τ).loc main_arg1)) (m ((c : Thread nD τ).loc main_arg3)) (m ((c : Thread nD τ).loc main_arg5)) (m ((c : Thread nD τ).loc main_arg7)) := by
  refine (dats m 0 c).arrAt_eq_of_covers 14 _ (by decide +kernel) fun t hf y => ?_
  have e0 : (win0_14.blk t).view.emb y 0 = y 0 :=
    Fin.ext ((Pipeline.Window.rect_emb_val win0_14 t y 0 rfl).trans (by rw [(idx t).2.2.2.2.2.2.2.2.2.2.2.2.2.2.1]; simp))
  have e1 : (win0_14.blk t).view.emb y 1 = y 1 :=
    Fin.ext ((Pipeline.Window.rect_emb_val win0_14 t y 1 rfl).trans (by rw [(idx t).2.2.2.2.2.2.2.2.2.2.2.2.2.2.1]; simp))
  blk_simp
  rw [after0_14]
  frame_out
  rw [pay11_eq]
  refine ((congrArg _ (show y = ix2 (y 0) (y 1) by blk_ext)).trans
    (top_at (iblk m c 1 t) (iblk m c 3 t) (iblk m c 7 t) (iblk m c 5 t) (m ((c : Thread nD τ).loc main_arg1)) (m ((c : Thread nD τ).loc main_arg3)) (m ((c : Thread nD τ).loc main_arg5)) (m ((c : Thread nD τ).loc main_arg7)) (read1 m c t) (read3 m c t) (read7 m c t) (read5 m c t) (y 0) (y 1))).trans ?_
  rw [← e0, ← e1]
  rfl

set_option maxHeartbeats 4000000 in
/-- The reference's reference model's sums. -/
theorem final15 (c : Dev nD) : (dats m 0 c).arrAt 15 cfg0.N = MASSES (m ((c : Thread nD τ).loc main_arg1)) (m ((c : Thread nD τ).loc main_arg3)) (m ((c : Thread nD τ).loc main_arg5)) (m ((c : Thread nD τ).loc main_arg7)) := by
  refine (dats m 0 c).arrAt_eq_of_covers 15 _ (by decide +kernel) fun t hf y => ?_
  have e0 : (win0_15.blk t).view.emb y 0 = y 0 :=
    Fin.ext ((Pipeline.Window.rect_emb_val win0_15 t y 0 rfl).trans (by rw [(idx t).2.2.2.2.2.2.2.2.2.2.2.2.2.2.2.1]; simp))
  have e1 : (win0_15.blk t).view.emb y 1 = y 1 :=
    Fin.ext ((Pipeline.Window.rect_emb_val win0_15 t y 1 rfl).trans (by rw [(idx t).2.2.2.2.2.2.2.2.2.2.2.2.2.2.2.1]; simp))
  blk_simp
  rw [after0_15]
  frame_out
  rw [pay13_eq]
  refine ((congrArg _ (show y = ix2 (y 0) (y 1) by blk_ext)).trans
    (mass_at (iblk m c 1 t) (iblk m c 3 t) (iblk m c 7 t) (iblk m c 5 t) (m ((c : Thread nD τ).loc main_arg1)) (m ((c : Thread nD τ).loc main_arg3)) (m ((c : Thread nD τ).loc main_arg5)) (m ((c : Thread nD τ).loc main_arg7)) (read1 m c t) (read3 m c t) (read7 m c t) (read5 m c t) (y 0) (y 1))).trans ?_
  rw [← e0, ← e1]
  rfl

set_option maxHeartbeats 4000000 in
/-- The reference's reference model's label logits. -/
theorem final16 (c : Dev nD) : (dats m 0 c).arrAt 16 cfg0.N = PICKS (m ((c : Thread nD τ).loc main_arg1)) (m ((c : Thread nD τ).loc main_arg3)) (m ((c : Thread nD τ).loc main_arg5)) (m ((c : Thread nD τ).loc main_arg7)) (m ((c : Thread nD τ).loc main_arg8)) := by
  refine (dats m 0 c).arrAt_eq_of_covers 16 _ (by decide +kernel) fun t hf y => ?_
  have e0 : (win0_16.blk t).view.emb y 0 = y 0 :=
    Fin.ext ((Pipeline.Window.rect_emb_val win0_16 t y 0 rfl).trans (by rw [(idx t).2.2.2.2.2.2.2.2.2.2.2.2.2.2.2.2]; simp))
  have e1 : (win0_16.blk t).view.emb y 1 = y 1 :=
    Fin.ext ((Pipeline.Window.rect_emb_val win0_16 t y 1 rfl).trans (by rw [(idx t).2.2.2.2.2.2.2.2.2.2.2.2.2.2.2.2]; simp))
  blk_simp
  rw [after0_16]
  frame_out
  rw [pay12_eq]
  refine ((congrArg _ (show y = ix2 (y 0) (y 1) by blk_ext)).trans
    (pick_at (iblk m c 1 t) (iblk m c 3 t) (iblk m c 7 t) (iblk m c 5 t) (m ((c : Thread nD τ).loc main_arg1)) (m ((c : Thread nD τ).loc main_arg3)) (m ((c : Thread nD τ).loc main_arg5)) (m ((c : Thread nD τ).loc main_arg7)) (read1 m c t) (read3 m c t) (read7 m c t) (read5 m c t) (iblk m c 8 t) (m ((c : Thread nD τ).loc main_arg8)) (read8 m c t) (y 0) (y 1))).trans ?_
  rw [← e0, ← e1]
  rfl

end Cert.StatsRefIdeal.Val

end
-- ==== Proof.lean ====
module

public import proofs.«01_k».proof.Defs
public import proofs.«01_k».proof.Proof.Gen.Stats.Frame
public import proofs.«01_k».proof.Proof.Gen.StatsIdeal.Frame
public import proofs.«01_k».proof.Proof.Gen.Grad.Frame
public import proofs.«01_k».proof.Proof.Gen.GradIdeal.Frame
public import proofs.«01_k».proof.Proof.Gen.Norm.Frame
public import proofs.«01_k».proof.Proof.Gen.NormIdeal.Frame
public import proofs.«01_k».proof.Proof.Gen.StatsRefIdeal.Frame
public import proofs.«01_k».proof.Proof.Gen.GradRefIdeal.Frame
public import proofs.«01_k».proof.Proof.NormValue
public import proofs.«01_k».proof.Proof.GradValue
public import proofs.«01_k».proof.Proof.GradRefValue
public import proofs.«01_k».proof.Proof.StatsValue
public import proofs.«01_k».proof.Proof.StatsRefValue
public import proofs.«01_k».proof.Proof.Gen.NormRefIdeal.Run
public import Idealize.ShloMosaic.Adequacy
public import Idealize.ShloMosaic.Init
public import Idealize.ShloMosaic.Lib.Claim

@[expose] public section

noncomputable section

namespace Cert.Proof

open Idealize.ShloMosaic Idealize.SL.Sem

/-- The side condition of the precondition's one broadcast. -/
theorem pre_facts : Cert.Pre_grad_defined.Facts := ⟨by decide⟩

set_option maxHeartbeats 4000000 in
/-- The statistics kernel leaves the arrays of its reference. -/
theorem algebraic_stats : Cert.algebraic_StatsIdeal_StatsRefIdeal (hStatsIdeal := Cert.StatsIdeal.Gen.facts) (hStatsRefIdeal := Cert.StatsRefIdeal.Gen.facts) := by
  pair_intro
  · run_from Cert.StatsIdeal.Gen.run_main m g
    exact hc.1 16
  · run_from Cert.StatsRefIdeal.Gen.run_main m' g'
    · obtain ⟨h0, h1, h2, h3, h4, h5, h6, h7, h8⟩ := hagree c
      have e := Cert.StatsRefIdeal.Val.final9 m' c
      rw [h0, h2, h4, h6] at e
      exact e.trans (Cert.StatsIdeal.Val.final9 m c).symm
    · obtain ⟨h0, h1, h2, h3, h4, h5, h6, h7, h8⟩ := hagree c
      have e := Cert.StatsRefIdeal.Val.final10 m' c
      rw [h0, h2, h4, h6] at e
      exact e.trans (Cert.StatsIdeal.Val.final10 m c).symm
    · obtain ⟨h0, h1, h2, h3, h4, h5, h6, h7, h8⟩ := hagree c
      have e := Cert.StatsRefIdeal.Val.final11 m' c
      rw [h0, h2, h4, h6] at e
      exact e.trans (Cert.StatsIdeal.Val.final11 m c).symm
    · obtain ⟨h0, h1, h2, h3, h4, h5, h6, h7, h8⟩ := hagree c
      have e := Cert.StatsRefIdeal.Val.final12 m' c
      rw [h0, h2, h4, h6] at e
      exact e.trans (Cert.StatsIdeal.Val.final12 m c).symm
    · obtain ⟨h0, h1, h2, h3, h4, h5, h6, h7, h8⟩ := hagree c
      have e := Cert.StatsRefIdeal.Val.final13 m' c
      rw [h0, h2, h4, h6, h8] at e
      exact e.trans (Cert.StatsIdeal.Val.final13 m c).symm
    · obtain ⟨h0, h1, h2, h3, h4, h5, h6, h7, h8⟩ := hagree c
      have e := Cert.StatsRefIdeal.Val.final14 m' c
      rw [h1, h3, h5, h7] at e
      exact e.trans (Cert.StatsIdeal.Val.final14 m c).symm
    · obtain ⟨h0, h1, h2, h3, h4, h5, h6, h7, h8⟩ := hagree c
      have e := Cert.StatsRefIdeal.Val.final15 m' c
      rw [h1, h3, h5, h7] at e
      exact e.trans (Cert.StatsIdeal.Val.final15 m c).symm
    · obtain ⟨h0, h1, h2, h3, h4, h5, h6, h7, h8⟩ := hagree c
      have e := Cert.StatsRefIdeal.Val.final16 m' c
      rw [h1, h3, h5, h7, h8] at e
      exact (hc.1 16).trans (e.trans (Cert.StatsIdeal.Val.final16 m c).symm)

set_option maxHeartbeats 2000000 in
/-- The gradient kernel leaves the arrays of its reference, where the gradient is defined. -/
theorem algebraic_grad [Cert.Pre_grad_defined.Facts] : Cert.algebraic_GradIdeal_GradRefIdeal_pre_grad_defined (hGradIdeal := Cert.GradIdeal.Gen.facts) (hGradRefIdeal := Cert.GradRefIdeal.Gen.facts) := by
  pair_intro
  · run_from Cert.GradIdeal.Gen.run_main m g
  · run_from Cert.GradRefIdeal.Gen.run_main m' g'
    · obtain ⟨h0, h1, h2, h3, h4, h5, h6, h7⟩ := hagree c
      have e := Cert.GradRefIdeal.Val.final8 m' c
      rw [h0, h2, h3, h4, h5, h6, h7] at e
      exact e.trans (Cert.GradIdeal.Val.final7 m c (Cert.GradSpec.defined_of_pre _ _ _ _ _ _ _ _ (hpre c))).symm
    · obtain ⟨h0, h1, h2, h3, h4, h5, h6, h7⟩ := hagree c
      have e := Cert.GradRefIdeal.Val.final9 m' c
      rw [h0, h1, h2, h3, h4, h5, h6, h7] at e
      exact e.trans (Cert.GradIdeal.Val.final8 m c (Cert.GradSpec.defined_of_pre _ _ _ _ _ _ _ _ (hpre c))).symm

/-- The frame of the normalisation's reference, a program of host operations. -/
theorem frame_norm_ref : Cert.quiescent_NormRefIdeal (hNormRefIdeal := Cert.NormRefIdeal.Gen.facts) := by
  intro m g _
  hlo_run
  · exact fun _ => ⟨trivial, trivial, trivial, trivial⟩
  · exact sem_eq_zero_of_no_sems (sig := Cert.NormRefIdeal.sig) (by decide) _

/-- The normalisation's backward kernel leaves the array of its reference. -/
theorem algebraic_norm : Cert.algebraic_NormIdeal_NormRefIdeal (hNormIdeal := Cert.NormIdeal.Gen.facts) (hNormRefIdeal := Cert.NormRefIdeal.Gen.facts) := by
  pair_intro
  · run_from Cert.NormIdeal.Gen.run_main m g
  · hlo_run
    exact (Cert.NormIdeal.Val.final m c).symm

theorem claim : Cert.Claim := by
  haveI := pre_facts
  exact ⟨Cert.Stats.Gen.facts, Cert.StatsIdeal.Gen.facts, Cert.StatsRefIdeal.Gen.facts, Cert.Grad.Gen.facts, Cert.GradIdeal.Gen.facts, Cert.GradRefIdeal.Gen.facts, Cert.Norm.Gen.facts, Cert.NormIdeal.Gen.facts, Cert.NormRefIdeal.Gen.facts, pre_facts,
    fun m g _ => Cert.Stats.Gen.frame m g, fun m g _ => Cert.StatsIdeal.Gen.frame m g, fun m g _ => Cert.StatsRefIdeal.Gen.frame m g, fun m g _ => Cert.Grad.Gen.frame m g, fun m g _ => Cert.GradIdeal.Gen.frame m g, fun m g _ => Cert.GradIdeal.Gen.frame m g, fun m g _ => Cert.GradRefIdeal.Gen.frame m g, fun m g _ => Cert.GradRefIdeal.Gen.frame m g, fun m g _ => Cert.Norm.Gen.frame m g, fun m g _ => Cert.NormIdeal.Gen.frame m g, frame_norm_ref, trivial, algebraic_stats, trivial, algebraic_grad, trivial, algebraic_norm⟩

end Cert.Proof

end
